-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x32x224x224x1 : Shape := ⟨5, ![8, 32, 224, 224, 1]⟩
abbrev S24432 : Shape := ⟨1, ![24432]⟩
abbrev S12845056 : Shape := ⟨1, ![12845056]⟩
abbrev S6251520 : Shape := ⟨1, ![6251520]⟩
abbrev S49504 : Shape := ⟨1, ![49504]⟩
abbrev S48856 : Shape := ⟨1, ![48856]⟩
abbrev S_ : Shape := ⟨0, ![]⟩
abbrev S16 : Shape := ⟨1, ![16]⟩
abbrev S48840 : Shape := ⟨1, ![48840]⟩
abbrev S8x32x24420 : Shape := ⟨3, ![8, 32, 24420]⟩

abbrev nBuf : Table → Nat
  | .hbm => 5
  | .local .scVector .vmem => 3
  | _ => 0

abbrev bufTy : (tb : Table) → Fin (nBuf tb) → BufTy
  | .hbm, ⟨0, _⟩ => ⟨S8x32x224x224x1, .f32⟩
  | .hbm, ⟨1, _⟩ => ⟨S24432, .i32⟩
  | .hbm, ⟨2, _⟩ => ⟨S12845056, .f32⟩
  | .hbm, ⟨3, _⟩ => ⟨S6251520, .f32⟩
  | .hbm, ⟨4, _⟩ => ⟨S8x32x24420, .f32⟩
  | .local .scVector .vmem, ⟨0, _⟩ => ⟨S24432, .i32⟩
  | .local .scVector .vmem, ⟨1, _⟩ => ⟨S49504, .f32⟩
  | .local .scVector .vmem, ⟨2, _⟩ => ⟨S48856, .f32⟩
  | _, _ => ⟨S8x32x224x224x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_c_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_1 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c2_i32_0 : BitVec 32 := 2#32
  let v4 : BitVec 32 := Scalar.muli v3 c2_i32_0
  let v5 : BitVec 32 := Scalar.addi v4 c0_i32_1
  let c50176_i32 : BitVec 32 := 50176#32
  let v6 : BitVec 32 := Scalar.muli v5 c50176_i32
  let c224_i32 : BitVec 32 := 224#32
  let v7 : BitVec 32 := Scalar.addi v6 c224_i32
  ![v7.toNat]
@[reducible] def k0_t1_loop : Scf.Loop 32 :=
  let c0_i32_3 : BitVec 32 := 0#32
  let c1527_i32 : BitVec 32 := 1527#32
  let v8 : BitVec 32 := Scalar.addi c0_i32_3 c1527_i32
  let c1_i32 : BitVec 32 := 1#32
  ⟨c0_i32_3, v8, c1_i32⟩
def k0_off2 (k0_t1 : Fin k0_t1_loop.trips) : Fin 1 → Nat :=
  let c0_i32_3 : BitVec 32 := 0#32
  let c1_i32 : BitVec 32 := 1#32
  let arg8 : BitVec 32 := Scf.iv c0_i32_3 c1_i32 k0_t1
  let c16_i32 : BitVec 32 := 16#32
  let v54 : BitVec 32 := Scalar.muli arg8 c16_i32
  let v55 : Index := Scalar.indexCast v54
  ![v55.toNat]

def k0_chk1 (v56 : IVec S16 32) : Prop :=
  (∀ a x, ((![v56] : Fin 1 → IVec S16 32) a x).toNat < S49504.size a)
theorem k0_idx1_inb : ∀ (v56 : IVec S16 32) (k0_hw1 : k0_chk1 v56), ∀ a x, ((![v56] : Fin 1 → IVec S16 32) a x).toNat < S49504.size a := fun v56 k0_hw1 => k0_hw1
def k0_off3 (k0_t1 : Fin k0_t1_loop.trips) : Fin 1 → Nat :=
  let c0_i32_77 : BitVec 32 := 0#32
  let c0_i32_3 : BitVec 32 := 0#32
  let c1_i32 : BitVec 32 := 1#32
  let arg8 : BitVec 32 := Scf.iv c0_i32_3 c1_i32 k0_t1
  let c16_i32_76 : BitVec 32 := 16#32
  let v58 : BitVec 32 := Scalar.muli arg8 c16_i32_76
  let v59 : BitVec 32 := Scalar.addi c0_i32_77 v58
  let v60 : Index := Scalar.indexCast v59
  ![v60.toNat]
@[reducible] def k0_t2_loop : Scf.Loop 32 :=
  let c0_i32_10 : BitVec 32 := 0#32
  let c1527_i32_11 : BitVec 32 := 1527#32
  let v13 : BitVec 32 := Scalar.addi c0_i32_10 c1527_i32_11
  let c1_i32_12 : BitVec 32 := 1#32
  ⟨c0_i32_10, v13, c1_i32_12⟩
def k0_off4 (k0_t2 : Fin k0_t2_loop.trips) : Fin 1 → Nat :=
  let c0_i32_10 : BitVec 32 := 0#32
  let c1_i32_12 : BitVec 32 := 1#32
  let arg8 : BitVec 32 := Scf.iv c0_i32_10 c1_i32_12 k0_t2
  let c16_i32 : BitVec 32 := 16#32
  let v54 : BitVec 32 := Scalar.muli arg8 c16_i32
  let v55 : Index := Scalar.indexCast v54
  ![v55.toNat]

def k0_chk2 (v56 : IVec S16 32) : Prop :=
  (∀ a x, ((![v56] : Fin 1 → IVec S16 32) a x).toNat < S49504.size a)
theorem k0_idx2_inb : ∀ (v56 : IVec S16 32) (k0_hw2 : k0_chk2 v56), ∀ a x, ((![v56] : Fin 1 → IVec S16 32) a x).toNat < S49504.size a := fun v56 k0_hw2 => k0_hw2
def k0_off5 (k0_t2 : Fin k0_t2_loop.trips) : Fin 1 → Nat :=
  let c24420_i32 : BitVec 32 := 24420#32
  let c0_i32_10 : BitVec 32 := 0#32
  let c1_i32_12 : BitVec 32 := 1#32
  let arg8 : BitVec 32 := Scf.iv c0_i32_10 c1_i32_12 k0_t2
  let c16_i32_76 : BitVec 32 := 16#32
  let v58 : BitVec 32 := Scalar.muli arg8 c16_i32_76
  let v59 : BitVec 32 := Scalar.addi c24420_i32 v58
  let v60 : Index := Scalar.indexCast v59
  ![v60.toNat]
def k0_off6 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi v2 c0_i32
  let c48840_i32 : BitVec 32 := 48840#32
  let v14 : BitVec 32 := Scalar.muli v3 c48840_i32
  ![v14.toNat]
@[reducible] def k0_t3_loop : Scf.Loop 32 :=
  let c0_i32_21 : BitVec 32 := 0#32
  let c1527_i32_22 : BitVec 32 := 1527#32
  let v21 : BitVec 32 := Scalar.addi c0_i32_21 c1527_i32_22
  let c1_i32_23 : BitVec 32 := 1#32
  ⟨c0_i32_21, v21, c1_i32_23⟩
def k0_off7 (k0_t3 : Fin k0_t3_loop.trips) : Fin 1 → Nat :=
  let c0_i32_21 : BitVec 32 := 0#32
  let c1_i32_23 : BitVec 32 := 1#32
  let arg8 : BitVec 32 := Scf.iv c0_i32_21 c1_i32_23 k0_t3
  let c16_i32 : BitVec 32 := 16#32
  let v54 : BitVec 32 := Scalar.muli arg8 c16_i32
  let v55 : Index := Scalar.indexCast v54
  ![v55.toNat]

def k0_chk3 (v56 : IVec S16 32) : Prop :=
  (∀ a x, ((![v56] : Fin 1 → IVec S16 32) a x).toNat < S49504.size a)
theorem k0_idx3_inb : ∀ (v56 : IVec S16 32) (k0_hw3 : k0_chk3 v56), ∀ a x, ((![v56] : Fin 1 → IVec S16 32) a x).toNat < S49504.size a := fun v56 k0_hw3 => k0_hw3
def k0_off8 (k0_t3 : Fin k0_t3_loop.trips) : Fin 1 → Nat :=
  let c0_i32_77 : BitVec 32 := 0#32
  let c0_i32_21 : BitVec 32 := 0#32
  let c1_i32_23 : BitVec 32 := 1#32
  let arg8 : BitVec 32 := Scf.iv c0_i32_21 c1_i32_23 k0_t3
  let c16_i32_76 : BitVec 32 := 16#32
  let v58 : BitVec 32 := Scalar.muli arg8 c16_i32_76
  let v59 : BitVec 32 := Scalar.addi c0_i32_77 v58
  let v60 : Index := Scalar.indexCast v59
  ![v60.toNat]
@[reducible] def k0_t4_loop : Scf.Loop 32 :=
  let c0_i32_30 : BitVec 32 := 0#32
  let c1527_i32_31 : BitVec 32 := 1527#32
  let v26 : BitVec 32 := Scalar.addi c0_i32_30 c1527_i32_31
  let c1_i32_32 : BitVec 32 := 1#32
  ⟨c0_i32_30, v26, c1_i32_32⟩
def k0_off9 (k0_t4 : Fin k0_t4_loop.trips) : Fin 1 → Nat :=
  let c0_i32_30 : BitVec 32 := 0#32
  let c1_i32_32 : BitVec 32 := 1#32
  let arg8 : BitVec 32 := Scf.iv c0_i32_30 c1_i32_32 k0_t4
  let c16_i32 : BitVec 32 := 16#32
  let v54 : BitVec 32 := Scalar.muli arg8 c16_i32
  let v55 : Index := Scalar.indexCast v54
  ![v55.toNat]

def k0_chk4 (v56 : IVec S16 32) : Prop :=
  (∀ a x, ((![v56] : Fin 1 → IVec S16 32) a x).toNat < S49504.size a)
theorem k0_idx4_inb : ∀ (v56 : IVec S16 32) (k0_hw4 : k0_chk4 v56), ∀ a x, ((![v56] : Fin 1 → IVec S16 32) a x).toNat < S49504.size a := fun v56 k0_hw4 => k0_hw4
def k0_off10 (k0_t4 : Fin k0_t4_loop.trips) : Fin 1 → Nat :=
  let c24420_i32 : BitVec 32 := 24420#32
  let c0_i32_30 : BitVec 32 := 0#32
  let c1_i32_32 : BitVec 32 := 1#32
  let arg8 : BitVec 32 := Scf.iv c0_i32_30 c1_i32_32 k0_t4
  let c16_i32_76 : BitVec 32 := 16#32
  let v58 : BitVec 32 := Scalar.muli arg8 c16_i32_76
  let v59 : BitVec 32 := Scalar.addi c24420_i32 v58
  let v60 : Index := Scalar.indexCast v59
  ![v60.toNat]
@[reducible] def k0_t5_loop : Scf.Loop 32 :=
  let c0_i32_42 : BitVec 32 := 0#32
  let c1527_i32_43 : BitVec 32 := 1527#32
  let v34 : BitVec 32 := Scalar.addi c0_i32_42 c1527_i32_43
  let c1_i32_44 : BitVec 32 := 1#32
  ⟨c0_i32_42, v34, c1_i32_44⟩
def k0_off11 (k0_t5 : Fin k0_t5_loop.trips) : Fin 1 → Nat :=
  let c0_i32_42 : BitVec 32 := 0#32
  let c1_i32_44 : BitVec 32 := 1#32
  let arg8 : BitVec 32 := Scf.iv c0_i32_42 c1_i32_44 k0_t5
  let c16_i32 : BitVec 32 := 16#32
  let v54 : BitVec 32 := Scalar.muli arg8 c16_i32
  let v55 : Index := Scalar.indexCast v54
  ![v55.toNat]

def k0_chk5 (v56 : IVec S16 32) : Prop :=
  (∀ a x, ((![v56] : Fin 1 → IVec S16 32) a x).toNat < S49504.size a)
theorem k0_idx5_inb : ∀ (v56 : IVec S16 32) (k0_hw5 : k0_chk5 v56), ∀ a x, ((![v56] : Fin 1 → IVec S16 32) a x).toNat < S49504.size a := fun v56 k0_hw5 => k0_hw5
def k0_off12 (k0_t5 : Fin k0_t5_loop.trips) : Fin 1 → Nat :=
  let c0_i32_77 : BitVec 32 := 0#32
  let c0_i32_42 : BitVec 32 := 0#32
  let c1_i32_44 : BitVec 32 := 1#32
  let arg8 : BitVec 32 := Scf.iv c0_i32_42 c1_i32_44 k0_t5
  let c16_i32_76 : BitVec 32 := 16#32
  let v58 : BitVec 32 := Scalar.muli arg8 c16_i32_76
  let v59 : BitVec 32 := Scalar.addi c0_i32_77 v58
  let v60 : Index := Scalar.indexCast v59
  ![v60.toNat]
@[reducible] def k0_t6_loop : Scf.Loop 32 :=
  let c0_i32_51 : BitVec 32 := 0#32
  let c1527_i32_52 : BitVec 32 := 1527#32
  let v39 : BitVec 32 := Scalar.addi c0_i32_51 c1527_i32_52
  let c1_i32_53 : BitVec 32 := 1#32
  ⟨c0_i32_51, v39, c1_i32_53⟩
def k0_off13 (k0_t6 : Fin k0_t6_loop.trips) : Fin 1 → Nat :=
  let c0_i32_51 : BitVec 32 := 0#32
  let c1_i32_53 : BitVec 32 := 1#32
  let arg8 : BitVec 32 := Scf.iv c0_i32_51 c1_i32_53 k0_t6
  let c16_i32 : BitVec 32 := 16#32
  let v54 : BitVec 32 := Scalar.muli arg8 c16_i32
  let v55 : Index := Scalar.indexCast v54
  ![v55.toNat]

def k0_chk6 (v56 : IVec S16 32) : Prop :=
  (∀ a x, ((![v56] : Fin 1 → IVec S16 32) a x).toNat < S49504.size a)
theorem k0_idx6_inb : ∀ (v56 : IVec S16 32) (k0_hw6 : k0_chk6 v56), ∀ a x, ((![v56] : Fin 1 → IVec S16 32) a x).toNat < S49504.size a := fun v56 k0_hw6 => k0_hw6
def k0_off14 (k0_t6 : Fin k0_t6_loop.trips) : Fin 1 → Nat :=
  let c24420_i32 : BitVec 32 := 24420#32
  let c0_i32_51 : BitVec 32 := 0#32
  let c1_i32_53 : BitVec 32 := 1#32
  let arg8 : BitVec 32 := Scf.iv c0_i32_51 c1_i32_53 k0_t6
  let c16_i32_76 : BitVec 32 := 16#32
  let v58 : BitVec 32 := Scalar.muli arg8 c16_i32_76
  let v59 : BitVec 32 := Scalar.addi c24420_i32 v58
  let v60 : Index := Scalar.indexCast v59
  ![v60.toNat]
@[reducible] def k0_t7_loop : Scf.Loop 32 :=
  let c0_i32_62 : BitVec 32 := 0#32
  let c1527_i32_63 : BitVec 32 := 1527#32
  let v47 : BitVec 32 := Scalar.addi c0_i32_62 c1527_i32_63
  let c1_i32_64 : BitVec 32 := 1#32
  ⟨c0_i32_62, v47, c1_i32_64⟩
def k0_off15 (k0_t7 : Fin k0_t7_loop.trips) : Fin 1 → Nat :=
  let c0_i32_62 : BitVec 32 := 0#32
  let c1_i32_64 : BitVec 32 := 1#32
  let arg8 : BitVec 32 := Scf.iv c0_i32_62 c1_i32_64 k0_t7
  let c16_i32 : BitVec 32 := 16#32
  let v54 : BitVec 32 := Scalar.muli arg8 c16_i32
  let v55 : Index := Scalar.indexCast v54
  ![v55.toNat]

def k0_chk7 (v56 : IVec S16 32) : Prop :=
  (∀ a x, ((![v56] : Fin 1 → IVec S16 32) a x).toNat < S49504.size a)
theorem k0_idx7_inb : ∀ (v56 : IVec S16 32) (k0_hw7 : k0_chk7 v56), ∀ a x, ((![v56] : Fin 1 → IVec S16 32) a x).toNat < S49504.size a := fun v56 k0_hw7 => k0_hw7
def k0_off16 (k0_t7 : Fin k0_t7_loop.trips) : Fin 1 → Nat :=
  let c0_i32_77 : BitVec 32 := 0#32
  let c0_i32_62 : BitVec 32 := 0#32
  let c1_i32_64 : BitVec 32 := 1#32
  let arg8 : BitVec 32 := Scf.iv c0_i32_62 c1_i32_64 k0_t7
  let c16_i32_76 : BitVec 32 := 16#32
  let v58 : BitVec 32 := Scalar.muli arg8 c16_i32_76
  let v59 : BitVec 32 := Scalar.addi c0_i32_77 v58
  let v60 : Index := Scalar.indexCast v59
  ![v60.toNat]
@[reducible] def k0_t8_loop : Scf.Loop 32 :=
  let c0_i32_71 : BitVec 32 := 0#32
  let c1527_i32_72 : BitVec 32 := 1527#32
  let v52 : BitVec 32 := Scalar.addi c0_i32_71 c1527_i32_72
  let c1_i32_73 : BitVec 32 := 1#32
  ⟨c0_i32_71, v52, c1_i32_73⟩
def k0_off17 (k0_t8 : Fin k0_t8_loop.trips) : Fin 1 → Nat :=
  let c0_i32_71 : BitVec 32 := 0#32
  let c1_i32_73 : BitVec 32 := 1#32
  let arg8 : BitVec 32 := Scf.iv c0_i32_71 c1_i32_73 k0_t8
  let c16_i32 : BitVec 32 := 16#32
  let v54 : BitVec 32 := Scalar.muli arg8 c16_i32
  let v55 : Index := Scalar.indexCast v54
  ![v55.toNat]

def k0_chk8 (v56 : IVec S16 32) : Prop :=
  (∀ a x, ((![v56] : Fin 1 → IVec S16 32) a x).toNat < S49504.size a)
theorem k0_idx8_inb : ∀ (v56 : IVec S16 32) (k0_hw8 : k0_chk8 v56), ∀ a x, ((![v56] : Fin 1 → IVec S16 32) a x).toNat < S49504.size a := fun v56 k0_hw8 => k0_hw8
def k0_off18 (k0_t8 : Fin k0_t8_loop.trips) : Fin 1 → Nat :=
  let c24420_i32 : BitVec 32 := 24420#32
  let c0_i32_71 : BitVec 32 := 0#32
  let c1_i32_73 : BitVec 32 := 1#32
  let arg8 : BitVec 32 := Scf.iv c0_i32_71 c1_i32_73 k0_t8
  let c16_i32_76 : BitVec 32 := 16#32
  let v58 : BitVec 32 := Scalar.muli arg8 c16_i32_76
  let v59 : BitVec 32 := Scalar.addi c24420_i32 v58
  let v60 : Index := Scalar.indexCast v59
  ![v60.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x32x224x224x1 : Shape := ⟨5, ![8, 32, 224, 224, 1]⟩
abbrev S24420 : Shape := ⟨1, ![24420]⟩
abbrev S8x32x50176 : Shape := ⟨3, ![8, 32, 50176]⟩
abbrev S_ : Shape := ⟨0, ![]⟩
abbrev S24420x1 : Shape := ⟨2, ![24420, 1]⟩
abbrev S1 : Shape := ⟨1, ![1]⟩
abbrev S1x1 : Shape := ⟨2, ![1, 1]⟩
abbrev S8x32x24420 : Shape := ⟨3, ![8, 32, 24420]⟩

abbrev nBuf : Space → Nat
  | .hbm => 26
  | .vmem => 0
  | .smem => 0
  | _ => 0

abbrev bufTy : (tb : Table) → Fin (tcTables nBuf tb) → BufTy
  | .hbm, ⟨0, _⟩ => ⟨S8x32x224x224x1, .f32⟩
  | .hbm, ⟨1, _⟩ => ⟨S24420, .i32⟩
  | .hbm, ⟨2, _⟩ => ⟨S8x32x50176, .f32⟩
  | .hbm, ⟨3, _⟩ => ⟨S_, .i32⟩
  | .hbm, ⟨4, _⟩ => ⟨S24420, .i32⟩
  | .hbm, ⟨5, _⟩ => ⟨S24420, .i1⟩
  | .hbm, ⟨6, _⟩ => ⟨S_, .i32⟩
  | .hbm, ⟨7, _⟩ => ⟨S24420, .i32⟩
  | .hbm, ⟨8, _⟩ => ⟨S24420, .i32⟩
  | .hbm, ⟨9, _⟩ => ⟨S24420, .i32⟩
  | .hbm, ⟨10, _⟩ => ⟨S24420x1, .i32⟩
  | .hbm, ⟨11, _⟩ => ⟨S1, .i32⟩
  | .hbm, ⟨12, _⟩ => ⟨S_, .i32⟩
  | .hbm, ⟨13, _⟩ => ⟨S24420x1, .i32⟩
  | .hbm, ⟨14, _⟩ => ⟨S24420x1, .i1⟩
  | .hbm, ⟨15, _⟩ => ⟨S1x1, .i32⟩
  | .hbm, ⟨16, _⟩ => ⟨S24420x1, .i32⟩
  | .hbm, ⟨17, _⟩ => ⟨S24420x1, .i1⟩
  | .hbm, ⟨18, _⟩ => ⟨S24420x1, .i1⟩
  | .hbm, ⟨19, _⟩ => ⟨S_, .i1⟩
  | .hbm, ⟨20, _⟩ => ⟨S24420, .i1⟩
  | .hbm, ⟨21, _⟩ => ⟨S8x32x24420, .f32⟩
  | .hbm, ⟨22, _⟩ => ⟨S8x32x24420, .i1⟩
  | .hbm, ⟨23, _⟩ => ⟨S_, .f32⟩
  | .hbm, ⟨24, _⟩ => ⟨S8x32x24420, .f32⟩
  | .hbm, ⟨25, _⟩ => ⟨S8x32x24420, .f32⟩
  | _, _ => ⟨S8x32x224x224x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Steps.lean ====
/-
  A step every task takes, stated once for any program: a transfer that is started and at once waited for.
-/
module

public import Idealize.ShloMosaic.Lib.SparseCore.Quiescent
public import Idealize.ShloMosaic.Lib.SparseCore.Ops
public import Idealize.ShloMosaic.Lib.Transfers
public import Idealize.ShloMosaic.Lib.Tactic

@[expose] public section

noncomputable section

namespace Cert.Proof

open Idealize.ShloMosaic
open Idealize.ShloMosaic.SparseCore.Cfg (HIx ownSems0 ownCells mem_ownCells)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} {U : Type} [URA U]

local notation "𝕄" => MT nD τ sig (HIx 1) (Elt F) ℕ U ℕ

/-- What a thread holds between two of its steps: leave to wait on its own semaphores, those semaphores at zero, and what
    it owes unchanged, its waits so far having added only entries of index `none`. -/
def Idle (c : Thread nD τ) (O : CellTallies nD τ sig (HIx 1)) (W : Waits sig (HIx 1)) : sProp 𝕄 :=
  iprop(Transfers.MayWaits c none O ∗ ownSems0 c ∗ ∃ W', ⌜∀ p ∈ W', p ∈ W ∨ p.2 = none⌝ ∗ owes c O W')

variable {Λ : Labels} {defs : Defs nD τ sig (Elt F) Λ} {𝒱 : Variants} {c : Thread nD τ} {bd : Option 𝒱.V}
variable {α : Type} {Q : α → sProp (MT nD τ sig (HIx 1) (Elt F) ℕ U ℕ)}

/-- A local transfer, started and then waited for: the destination's elements come back rewritten with what the source
    holds, and the source's come back as they were. -/
theorem copy_wait (EC : UEmb Counters (MT nD τ sig (HIx 1) (Elt F) ℕ U ℕ)) [EC.LandsIn (upEmb : UEmb _ 𝕄)]
    {sp sp' : Space} {s : Shape} {e : EltTy} {src : Memref sig c.2.kind sp s e} {dst : Memref sig c.2.kind sp' s e}
    {sem : DmaSem sig} {h₁ h₁' : src.view.WordExact} {h₂ h₂' : dst.view.WordExact}
    {h₃ : DmaTarget.Typed (nD := nD) sp (.dma sem) (.here dst)} {k : PUnit → Prog (TpuEff nD τ sig (Elt F) Λ c.2) α}
    {q : PosShare TreeShare} {Ss : Finset (Idx (src.view.loc c))} {fs : Buf (Elt F) (src.view.loc c)}
    {Sd : Finset (Idx (dst.view.loc c))} {fd : Buf (Elt F) (dst.view.loc c)} {O : CellTallies nD τ sig (HIx 1)} {W : Waits sig (HIx 1)}
    (hsem : (SemLoc.dma sem : SemLoc sig).isScoped c.2.kind = true) (hpos : 0 < s.numel) (hSs : src.view.set ⊆ Ss) (hSd : dst.view.set ⊆ Sd) :
    iprop((src.view.loc c ↦[Ss]{q} fs) ∗ (dst.view.loc c ↦[Sd]{fullShare} fd) ∗ Idle c O W)
      ⊢ iprop((iprop((src.view.loc c ↦[Ss]{q} fs)
              ∗ (dst.view.loc c ↦[Sd]{fullShare} dst.view.write (Elt F) fd (src.view.read (Elt F) fs) Finset.univ) ∗ Idle c O W)
            -∗ wp frame (wpE defs 𝒱 c bd) Set.univ (k ⟨⟩) Q)
          -∗ wp frame (wpE defs 𝒱 c bd) Set.univ
              (.op (.enqueueDma src (.here dst) (.dma sem) h₁ h₂ h₃) fun _ => .op (.waitDma2 sem src dst h₁' h₂') k) Q) := by
  have hmem : ((c, .dma sem) : GSem nD τ sig) ∈ ownCells c := mem_ownCells.mpr ⟨rfl, hsem⟩
  unfold Idle SparseCore.Cfg.ownSems0
  rw [SparseCore.bigSep_erase' hmem]
  iintro ⟨Hs, Hd, #Hmw, ⟨Hv, Hsems⟩, %W', %hW', HO⟩ Hk
  ihave Hs2 := (pointsTo_split_subset hSs).1 $$ Hs
  icases Hs2 with ⟨Hs, Hrest⟩
  iapply (Transfers.wp_dmaLocal EC 𝒱 c bd (via := .same) none (dst.view.amount (.dma sem)) rfl (View.amount_pos _ _ hpos) hSd) $$ [Hs Hd Hv]
  · isplitl [Hs]; · iexact Hs
    isplitl [Hd]; · iexact Hd
    iexact Hv
  iintro Hfl
  iapply (Transfers.wp_waitLocalO EC 𝒱 c bd none (O := O) (W := W') rfl) $$ [Hfl HO]
  · isplitl [Hfl]; · iexact Hfl
    isplitl [HO]; · iexact HO
    iapply (Transfers.MayWaits.elim (SemLoc.dma sem)); iexact Hmw
  iintro ⟨⟨Hd, Hs⟩, Hv, HO⟩
  iapply Hk
  isplitl [Hs Hrest]
  · iapply (pointsTo_split_subset hSs).2
    isplitl [Hs] <;> iassumption
  isplitl [Hd]; · iexact Hd
  isplitr; · iexact Hmw
  isplitl [Hv Hsems]
  · isplitl [Hv] <;> iassumption
  iexists _; isplitr
  rotate_left
  · iexact HO
  · ipureintro; intro p hp
    rcases Finset.mem_insert.mp hp with rfl | hp
    · exact .inr rfl
    · exact hW' p hp

end Cert.Proof

end
-- ==== Proof.Positions.lean ====
/-
  The positions the index vector names, in closed form. The mask of the bottom half of the image keeps, of each pair
  of rows `2q + 1`, `2q + 2`, the odd-row pixels at even columns `2, 4, …, 220` (110 of them) and the even-row pixels
  at odd columns `1, 3, …, 221` (111 of them): entry `j` of the vector is in pair `j / 221`.
-/
module

public import Mathlib.Data.Nat.Notation

@[expose] public section

namespace Cert.Proof

/-- The flat pixel (row-major in a 224 × 224 image) that entry `j` of the index vector names. -/
def pixel (j : ℕ) : ℕ :=
  if j % 221 < 110 then (2 * (j / 221) + 1) * 224 + 2 * (j % 221 + 1)
  else (2 * (j / 221) + 2) * 224 + 2 * (j % 221 - 110) + 1

/-- Entry `j` of the vector the kernel reads: the pixel less the image's first row, which the kernel leaves out of
    its fetch; zero in the padding. -/
def window (j : ℕ) : ℕ := if j < 24420 then pixel j - 224 else 0

/-- No pixel of the mask is in the first row. -/
theorem pixel_ge (j : ℕ) : 224 ≤ pixel j := by unfold pixel; split <;> omega

/-- None is in the last two. -/
theorem pixel_lt {j : ℕ} (h : j < 24420) : pixel j < 49728 := by unfold pixel; split <;> omega

/-- So all of them are in the window the kernel fetches. -/
theorem window_lt (j : ℕ) : window j < 49504 := by
  unfold window
  split
  · rename_i h; have := pixel_lt h; have := pixel_ge j; omega
  · omega

/-- The kernel's entry and the pixel differ by the first row. -/
theorem window_add {j : ℕ} (h : j < 24420) : window j + 224 = pixel j := by
  unfold window; rw [if_pos h]; have := pixel_ge j; omega

end Cert.Proof

end
-- ==== Proof.Values.lean ====
/-
  What the arrays hold, in plain mathematics: the flat result as a gather of the flat input, and the three facts that a
  task's scratch buffers carry from step to step.
-/
module

public import proofs.«01_k».proof.Proof.Positions
public import Idealize.ShloMosaic.Lib.SparseCore.Ops

@[expose] public section

namespace Cert.Proof

open Idealize.ShloMosaic

/-- A shape of one axis. -/
abbrev Line (n : ℕ) : Shape := ⟨1, ![n]⟩

variable {α : Type}

/-- The element a word of the flat result is taken from is one of the flat input. -/
theorem source_lt (k : (Line 6251520).Idx) : (k 0).val / 24420 * 50176 + pixel ((k 0).val % 24420) < 12845056 := by
  have hk : (k 0).val < 6251520 := (k 0).isLt
  have h := pixel_lt (j := (k 0).val % 24420) (by omega)
  omega

/-- The flat result: element `24420 r + j` is element `50176 r + pixel j` of the flat input. -/
def gathered (xv : (Line 12845056).Idx → α) (k : (Line 6251520).Idx) : α :=
  xv (Shape.ofLane (d := ![12845056]) ⟨(k 0).val / 24420 * 50176 + pixel ((k 0).val % 24420), source_lt k⟩)

/-- An index of a one-axis shape is its coordinate. -/
theorem line_ext {n : ℕ} {x y : (Line n).Idx} (h : (x 0).val = (y 0).val) : x = y := by
  funext a; obtain rfl : a = 0 := Subsingleton.elim _ _; exact Fin.ext h

/-- A word of the gather is the input's word at the place named. -/
theorem gathered_eq {xv : (Line 12845056).Idx → α} {k : (Line 6251520).Idx} {x : (Line 12845056).Idx}
    (h : (x 0).val = (k 0).val / 24420 * 50176 + pixel ((k 0).val % 24420)) : gathered xv k = xv x :=
  congrArg xv (line_ext h.symm)

/-- The index scratch holds the table. -/
def Table (fI : (Line 24432).Idx → BitVec 32) : Prop := ∀ i, (fI i).toNat = window (i 0).val

/-- The window scratch holds image `row` from its second row of pixels on. -/
def Fetched (xv : (Line 12845056).Idx → α) (row : ℕ) (fW : (Line 49504).Idx → α) : Prop :=
  ∀ (w : (Line 49504).Idx) (x : (Line 12845056).Idx), (x 0).val = 50176 * row + 224 + (w 0).val → fW w = xv x

/-- The first `n` words of the out scratch are those of the result's pair `p` of rows. -/
def Filled (xv : (Line 12845056).Idx → α) (p n : ℕ) (g : (Line 48856).Idx → α) : Prop :=
  ∀ (o : (Line 48856).Idx) (k : (Line 6251520).Idx), (o 0).val < n → (k 0).val = 48840 * p + (o 0).val → g o = gathered xv k

/-- What is filled further is filled less far. -/
theorem Filled.mono {xv : (Line 12845056).Idx → α} {p n n' : ℕ} {g : (Line 48856).Idx → α} (h : Filled xv p n g)
    (hn : n' ≤ n) : Filled xv p n' g := fun o k ho hk => h o k (by omega) hk

/-- Nothing filled, nothing to show. -/
theorem Filled.zero (xv : (Line 12845056).Idx → α) (p : ℕ) (g : (Line 48856).Idx → α) : Filled xv p 0 g :=
  fun _ _ ho => absurd ho (Nat.not_lt_zero _)

/-- How far the out scratch is filled before trip `t` of the loop over row `b` of a pair. -/
def mark (b t : ℕ) : ℕ := min (24420 * b + 16 * t) (24420 * b + 24420)

/-- One trip of a loop: sixteen more words. `g'` is the out scratch after it: as before below the sixteen, and at the
    `l`-th of them the window's word that the table names at `16 t + l`. -/
theorem Filled.step {xv : (Line 12845056).Idx → α} {p b t : ℕ} (hb : b < 2) {fI : (Line 24432).Idx → BitVec 32}
    {fW : (Line 49504).Idx → α} {g g' : (Line 48856).Idx → α} (hI : Table fI) (hW : Fetched xv (2 * p + b) fW)
    (hg : Filled xv p (mark b t) g) (ht : t < 1527)
    (hkeep : ∀ o, (o 0).val < 24420 * b + 16 * t → g' o = g o)
    (hnew : ∀ (o : (Line 48856).Idx) (i : (Line 24432).Idx) (w : (Line 49504).Idx), 24420 * b + 16 * t ≤ (o 0).val →
      (o 0).val < 24420 * b + 16 * t + 16 → (i 0).val + 24420 * b = (o 0).val → (w 0).val = (fI i).toNat → g' o = fW w) :
    Filled xv p (mark b (t + 1)) g' := by
  unfold mark at hg ⊢
  intro o k ho hk
  have hk' : (k 0).val < 6251520 := (k 0).isLt
  by_cases hlo : (o 0).val < 24420 * b + 16 * t
  · rw [hkeep o hlo]; exact hg o k (by omega) hk
  have hj : (o 0).val - 24420 * b < 24420 := by omega
  have hwin := window_add hj
  have hpix := pixel_lt hj
  let i : (Line 24432).Idx := Shape.ofLane (d := ![24432]) ⟨(o 0).val - 24420 * b, show _ < 24432 by omega⟩
  have hi : (i 0).val = (o 0).val - 24420 * b := rfl
  have hfi : (fI i).toNat = window ((o 0).val - 24420 * b) := by rw [hI i, hi]
  let w : (Line 49504).Idx := Shape.ofLane (d := ![49504]) ⟨window ((o 0).val - 24420 * b), window_lt _⟩
  have hw : (w 0).val = window ((o 0).val - 24420 * b) := rfl
  rw [hnew o i w (by omega) (by omega) (by omega) (by rw [hw, hfi])]
  have hdiv : (k 0).val / 24420 = 2 * p + b := by omega
  have hmod : (k 0).val % 24420 = (o 0).val - 24420 * b := by omega
  exact hW w _ (by
    show (k 0).val / 24420 * 50176 + pixel ((k 0).val % 24420) = _
    rw [hdiv, hmod, hw]; omega)

end Cert.Proof

end
-- ==== Proof.KernelTable.lean ====
/-
  The kernel's index table, read off in closed form: entry `j` of the 24,432 words is `window j`.
-/
module

public import proofs.«01_k».proof.Kernel
public import proofs.«01_k».proof.Proof.Positions
public import Idealize.ShloMosaic.Lib.Decide

@[expose] public section

namespace Cert.Kernel.Table

open Idealize.ShloMosaic

/-- The table, chunk by chunk: it and the closed form, evaluated at every index. -/
theorem chunks : ∀ a : Fin 191, ∀ b : Fin 128, 128 * a.val + b.val < 24432 →
    (lit0t (128 * a.val + b.val)).toNat = Cert.Proof.window (128 * a.val + b.val) := by decide +kernel

/-- Entry `j` of the table is `window j`. -/
theorem lit0_toNat (j : Fin 24432) : (lit0 j).toNat = Cert.Proof.window j.val := by
  have h := chunks ⟨j.val / 128, by omega⟩ ⟨j.val % 128, by omega⟩
  have e : 128 * (j.val / 128) + j.val % 128 = j.val := by omega
  simp only [e] at h
  exact h j.isLt

end Cert.Kernel.Table

end
-- ==== Proof.KernelIdealTile.lean ====
/-
  The steps of one task of the kernel, each with the value it computes: a trip of a gather loop, a whole gather loop, the
  fetch of an image's window, and the write-out of a pair of rows.
-/
module

public import proofs.«01_k».proof.Proof.Gen.KernelIdeal
public import proofs.«01_k».proof.Proof.Gen.KernelIdeal.Skeleton
public import proofs.«01_k».proof.Proof.Steps
public import proofs.«01_k».proof.Proof.Values
public import Idealize.ShloMosaic.Lib.Pipeline.Kit
public import Idealize.ShloMosaic.Lib.Pipeline.Value
public import Idealize.ShloMosaic.Lib.Pipeline.ValueKit.Geometry

@[expose] public section

noncomputable section

namespace Cert.KernelIdeal.Run

open Cert.KernelIdeal Cert.KernelIdeal.Gen Cert.Proof

open Idealize.ShloMosaic
open Idealize.ShloMosaic.SparseCore (S V T)
open Idealize.ShloMosaic.SparseCore.Cfg (HIx ownBufs ownSems0 ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The handshakes' ghost state beside the transfers' counters. -/
abbrev UH : Type := URounds (GSem nD τ sig) ℕ
/-- All the ghost state. -/
abbrev UU : Type := UH × Counters

local notation "𝕄" => MT nD τ sig (HIx 1) (Elt F) ℕ UU ℕ

/-- The transfers' counters, embedded. -/
abbrev EC : UEmb Counters (MT nD τ sig (HIx 1) (Elt F) ℕ UU ℕ) := countersEmb

/-- No loop of a task needs a variant. -/
abbrev 𝒱₀ : Variants := Variants.none

/-- The flat input, the table and the flat result, as a task names them. -/
abbrev xV : Memref sig .scVector .hbm S12845056 .f32 := Memref.whole main_v0_scv
abbrev iV : Memref sig .scVector .hbm S24432 .i32 := Memref.whole main_c_scv
abbrev oV : Memref sig .scVector .hbm S6251520 .f32 := Memref.whole main_v1_scv
/-- A task's scratch: the table, the window of an image, the gathered rows. -/
abbrev sI : Memref sig .scVector .vmem S24432 .i32 := Memref.whole cc0_scratch0
abbrev sW : Memref sig .scVector .vmem S49504 .f32 := Memref.whole cc0_scratch1
abbrev sO : Memref sig .scVector .vmem S48856 .f32 := Memref.whole cc0_scratch2

variable (d : Dev nD) (L : grid0.Coords)

/-- The thread of the task at grid point `L` of device `d`. -/
abbrev thr : Thread nD τ := V d ((L 0).castLE hcore0) ((L 1).castLE hsub0)

/-- The places of the three scratch buffers. -/
abbrev iLoc : Loc nD τ sig := (thr d L).loc cc0_scratch0
abbrev wLoc : Loc nD τ sig := (thr d L).loc cc0_scratch1
abbrev oLoc : Loc nD τ sig := (thr d L).loc cc0_scratch2

/-- The weakest precondition of a task's program. -/
abbrev wpT {α : Type} (p : Prog (TpuEff nD τ sig (Elt F) Λ₀ (thr d L).2) α) (Q : α → sProp 𝕄) : sProp 𝕄 :=
  wp frame (wpE (defs₀ (F := F)) 𝒱₀ (thr d L) none) Set.univ p Q

/-! ## One trip -/

/-- What a trip leaves in the out scratch. -/
abbrev stored {off : Fin 1 → ℕ} (h : ∀ a, off a + S16.size a ≤ S48856.size a) (g : S48856.Idx → Elt F .f32) (w : S16.Idx → Elt F .f32) :
    S48856.Idx → Elt F .f32 := (sO.access (Rect.unit (s := S48856) off S16.size h)).write (Elt F) g w Finset.univ

omit [FloatOps F] in
/-- Below the sixteen words a trip stores, nothing changes. -/
theorem stored_below {off : Fin 1 → ℕ} (h : ∀ a, off a + S16.size a ≤ S48856.size a) (g : S48856.Idx → Elt F .f32) (w : S16.Idx → Elt F .f32)
    {o : S48856.Idx} (ho : (o 0).val < off 0) : stored h g w o = g o := by
  refine (congrFun (View.write_whole_slice_unit (cc0_scratch2 : Ref sig .scVector) off S16.size h g w) o).trans ?_
  unfold updateSlice
  rw [dif_neg]
  intro hin; have := (hin 0).1; omega

omit [FloatOps F] in
/-- At them, the stored words. -/
theorem stored_at {off : Fin 1 → ℕ} (h : ∀ a, off a + S16.size a ≤ S48856.size a) (g : S48856.Idx → Elt F .f32) (w : S16.Idx → Elt F .f32)
    {o : S48856.Idx} {x : S16.Idx} (ho : (o 0).val = off 0 + (x 0).val) : stored h g w o = w x := by
  have e : (Rect.unit (s := S48856) off S16.size h).emb x = o := line_ext
    ((ValueKit.rect_emb_unit_val (s := S48856) off S16.size h x 0).trans ho.symm)
  subst e
  exact View.write_emb_of_mem (v := sO.access (Rect.unit (s := S48856) off S16.size h)) g w (Finset.mem_univ x)

/-- The sixteen table words a trip reads. -/
abbrev picked {off : Fin 1 → ℕ} (h : ∀ a, off a + S16.size a ≤ S24432.size a) (fI : S24432.Idx → Elt F .i32) : S16.Idx → Elt F .i32 :=
  sI.view.readAt (Elt F) (Rect.unit (s := S24432) off S16.size h).toLoadRect fI

omit [FloatOps F] in
/-- Word `x` of the sixteen is the table's word at `off + x`. -/
theorem picked_eq {off : Fin 1 → ℕ} (h : ∀ a, off a + S16.size a ≤ S24432.size a) (fI : S24432.Idx → Elt F .i32)
    {i : S24432.Idx} {x : S16.Idx} (hi : (i 0).val = off 0 + (x 0).val) : picked (F := F) h fI x = fI i :=
  congrArg fI (line_ext
    ((ValueKit.rect_emb_unit_val (s := S24432) off S16.size h x 0).trans hi.symm))

/-- A trip's program: load sixteen table words, gather the window at them, store the sixteen gathered words. -/
def trip (c : Fin τ.nSC) (j : Fin τ.nSub) (offI offO : Fin 1 → ℕ) (hI : ∀ a, offI a + S16.size a ≤ S24432.size a) (hO : ∀ a, offO a + S16.size a ≤ S48856.size a)
    (chk : Vec F S16 .i32 → Prop) (dec : ∀ v, Decidable (chk v)) (inb : ∀ v, chk v → ∀ a x, ((![v] : Fin 1 → Vec F S16 .i32) a x).toNat < S49504.size a) :
    Prog (TpuEff nD τ sig (Elt F) Λ₀ (.scVector c j)) Unit := do
  let v : Vec F S16 .i32 ← Prog.lift (.load sI (Rect.unit (s := S24432) offI S16.size hI).toLoadRect (View.loadsAt_vmem h_S16))
  have hw : chk v := (← Prog.lift (TpuEff.assume (chk v) (dec v))).down
  let w : Vec F S16 .f32 ← SparseCore.vectorLoadIdx sW ![v] (inb v hw) (View.loads_vmem h_S49504)
  let _u : Vec F S16 .f32 ← Prog.lift (.load sO (Rect.unit (s := S48856) offO S16.size hO).toLoadRect (View.loadsAt_vmem h_S16))
  Prog.lift (.store sO (Rect.unit (s := S48856) offO S16.size hO) w Finset.univ (View.stores_vmem_bits_univ h_S16 rfl) (.inl rfl))
  pure ⟨⟩

/-- What the loop over row `b` of pair `p` holds before trip `t`. -/
def Gather (xv : S12845056.Idx → Elt F .f32) (p b t : ℕ) : sProp 𝕄 :=
  iprop((∃ fI, ⌜Table fI⌝ ∗ iLoc d L ↦{fullShare} fI) ∗ (∃ fW, ⌜Fetched xv (2 * p + b) fW⌝ ∗ wLoc d L ↦{fullShare} fW)
    ∗ ∃ g, ⌜Filled xv p (mark b t) g⌝ ∗ oLoc d L ↦{fullShare} g)

/-- One trip: sixteen more words of the out scratch. -/
theorem trip_rule {xv : S12845056.Idx → Elt F .f32} {p b t : ℕ} (hb : b < 2) (ht : t < 1527) {offI offO : Fin 1 → ℕ} {hI hO}
    {chk : Vec F S16 .i32 → Prop} {dec inb} (eI : offI 0 = 16 * t) (eO : offO 0 = 24420 * b + 16 * t)
    (hchk : ∀ v : Vec F S16 .i32, (∀ a x, ((![v] : Fin 1 → Vec F S16 .i32) a x).toNat < S49504.size a) → chk v) :
    Gather d L xv p b t ⊢ wpT d L (trip _ _ offI offO hI hO chk dec inb) fun _ => Gather d L xv p b (t + 1) := by
  unfold Gather wpT trip
  simp only [Prog.lift, Prog.bind_op, Prog.bind_ret, Prog.pure_eq_ret]
  iintro ⟨⟨%fI, %hT, Hi⟩, ⟨%fW, %hF, Hw⟩, ⟨%g, %hG, Ho⟩⟩
  iapply (wp_load 𝒱₀ (thr d L) none Set.univ (m := sI) (S := Finset.univ) (Finset.subset_univ _)) $$ Hi; iintro Hi
  have hok : ∀ a x, ((![picked (F := F) hI fI] : Fin 1 → Vec F S16 .i32) a x).toNat < S49504.size a := by
    intro a x
    obtain rfl : a = 0 := Subsingleton.elim _ _
    have hx : (x 0).val < 16 := (x 0).isLt
    let i : S24432.Idx := Shape.ofLane (d := ![24432]) ⟨offI 0 + (x 0).val, show _ < 24432 by have h := hI 0; change offI 0 + 16 ≤ 24432 at h; omega⟩
    show (picked (F := F) hI fI x).toNat < 49504
    rw [picked_eq (F := F) (i := i) hI fI rfl, hT]; exact window_lt _
  rw [wp_assume_of _ _ _ _ (hchk _ hok)]
  iapply (SparseCore.wp_vectorLoadIdx 𝒱₀ (thr d L) none Set.univ (base := sW) (S := Finset.univ) (q := fullShare) (Finset.subset_univ _)) $$ Hw; iintro Hw
  iapply (wp_load 𝒱₀ (thr d L) none Set.univ (m := sO) (S := Finset.univ) (Finset.subset_univ _)) $$ Ho; iintro Ho
  iapply (wp_store 𝒱₀ (thr d L) none Set.univ (m := sO) (r := Rect.unit (s := S48856) offO S16.size hO) (Mk := Finset.univ) (S := Finset.univ) (Finset.subset_univ _)) $$ Ho; iintro Ho
  rw [wp_ret]; imodintro
  isplitl [Hi]
  · iexists fI; isplitr; · ipureintro; exact hT
    iexact Hi
  isplitl [Hw]
  · iexists fW; isplitr; · ipureintro; exact hF
    iexact Hw
  iexists _; isplitr
  rotate_left
  · iexact Ho
  ipureintro
  refine Filled.step hb hT hF hG ht (fun o ho => stored_below hO g _ (by omega)) fun o i w h1 h2 h3 h4 => ?_
  let x : S16.Idx := Shape.ofLane (d := ![16]) ⟨(o 0).val - offO 0, show _ < 16 by omega⟩
  have hx : (x 0).val = (o 0).val - offO 0 := rfl
  refine (stored_at hO g _ (x := x) (by omega)).trans ?_
  refine (congrFun (Memref.read_access_whole (Elt F) (cc0_scratch1 : Ref sig .scVector) fW) _).trans (congrArg fW (line_ext ?_))
  show (picked (F := F) hI fI x).toNat = _
  rw [picked_eq (F := F) (i := i) hI fI (by omega), h4]

/-! ## A whole loop -/

/-- A printed loop is a gather loop over row `b` of a pair: 1527 trips, trip `t` gathering at the table's words from
    `16 t` into the out scratch's from `24420 b + 16 t`. -/
structure Gathers (b : ℕ) (l : Scf.Loop 32) (body : Fin l.trips → Unit → Prog (TpuEff nD τ sig (Elt F) Λ₀ (thr d L).2) Unit) : Prop where
  trips : l.trips = 1527
  form : ∃ (offI offO : Fin l.trips → Fin 1 → ℕ) (hI : ∀ t, ∀ a, offI t a + S16.size a ≤ S24432.size a)
    (hO : ∀ t, ∀ a, offO t a + S16.size a ≤ S48856.size a) (chk : Vec F S16 .i32 → Prop) (dec : ∀ v, Decidable (chk v))
    (inb : ∀ v, chk v → ∀ a x, ((![v] : Fin 1 → Vec F S16 .i32) a x).toNat < S49504.size a),
    (∀ t u, body t u = trip _ _ (offI t) (offO t) (hI t) (hO t) chk dec inb) ∧ (∀ t, offI t = ![16 * t.val])
      ∧ (∀ t, offO t 0 = 24420 * b + 16 * t.val)
      ∧ ∀ v : Vec F S16 .i32, (∀ a x, ((![v] : Fin 1 → Vec F S16 .i32) a x).toNat < S49504.size a) → chk v

/-- A gather loop, all its 1527 trips. -/
theorem loop_rule {xv : S12845056.Idx → Elt F .f32} {p b : ℕ} (hb : b < 2) {l : Scf.Loop 32} (hok : l.OK)
    {body : Fin l.trips → Unit → Prog (TpuEff nD τ sig (Elt F) Λ₀ (thr d L).2) Unit} (hG : Gathers d L b l body)
    {α : Type} {k : Unit → Prog (TpuEff nD τ sig (Elt F) Λ₀ (thr d L).2) α} {Q : α → sProp 𝕄} :
    Gather d L xv p b 0 ⊢ iprop((∀ u, Gather d L xv p b 1527 -∗ wpT d L (k u) Q) -∗ wpT d L (Scf.Loop.for l hok ⟨⟩ body >>= k) Q) := by
  obtain ⟨hl, offI, offO, hI, hO, chk, dec, inb, hbody, eI, eO, hchk⟩ := hG
  have h := Scf.wp_for_bind frame (wpE (defs₀ (F := F)) 𝒱₀ (thr d L) none) Set.univ l.lb l.ub l.st hok ⟨⟩ body
    (fun t _ => Gather d L xv p b t) (fun t u => by
      rw [hbody]
      exact trip_rule d L hb (hl ▸ t.isLt) (by rw [eI]; rfl) (eO t) hchk) (kk := k) (Q := Q)
  rw [show Scf.trips l.lb l.ub l.st = 1527 from hl] at h
  exact h

/-! ## The copies -/

/-- The task's number: two tasks of one subcore number, one on each SparseCore, are neighbours. -/
abbrev wid : ℕ := 2 * (L 1).val + (L 0).val

/-- There are 32 tasks. -/
theorem wid_lt : wid L < 32 := by
  have h0 : (L 0).val < 2 := (L 0).isLt
  have h1 : (L 1).val < 16 := (L 1).isLt
  show 2 * (L 1).val + (L 0).val < 32
  omega

/-- The 195360 elements of the result that task `L` writes. -/
def region : Finset S6251520.Idx := Finset.univ.filter fun k => (k 0).val / 195360 = wid L

/-- Which elements a task writes. -/
theorem mem_region {k : S6251520.Idx} : k ∈ region L ↔ (k 0).val / 195360 = wid L := by simp [region]

/-- The places of the three arrays in the device's memory. -/
abbrev xHbm : Loc nD τ sig := (thr d L).loc main_v0_scv
abbrev iHbm : Loc nD τ sig := (thr d L).loc main_c_scv
abbrev oHbm : Loc nD τ sig := (thr d L).loc main_v1_scv

/-- The task's state between its steps: the table and some window, the out scratch filled to `n` with pair `r` of its
    rows, a share of the input, leave to go on, and its elements of the result, right for the first `r` pairs. -/
def Mid (q : PosShare TreeShare) (O : CellTallies nD τ sig (HIx 1)) (W : Waits sig (HIx 1)) (xv : S12845056.Idx → Elt F .f32) (r n : ℕ) : sProp 𝕄 :=
  iprop((∃ fI, ⌜Table fI⌝ ∗ iLoc d L ↦{fullShare} fI) ∗ (∃ fW, wLoc d L ↦{fullShare} fW)
    ∗ (∃ g, ⌜Filled xv (4 * wid L + r) n g⌝ ∗ oLoc d L ↦{fullShare} g) ∗ (xHbm d L ↦{q} xv) ∗ Idle (thr d L) O W
    ∗ ∃ f, ⌜∀ k ∈ region L, (k 0).val < 195360 * wid L + 48840 * r → f k = gathered xv k⌝ ∗ oHbm d L ↦[region L]{fullShare} f)

section Copies

variable {q : PosShare TreeShare} {O : CellTallies nD τ sig (HIx 1)} {W : Waits sig (HIx 1)} {xv : S12845056.Idx → Elt F .f32}
variable {α : Type} {Q : α → sProp (MT nD τ sig (HIx 1) (Elt F) ℕ UU ℕ)}

/-- What a fetch from the second row of pixels of image `row` on brings is that image's window. -/
theorem fetched {row : ℕ} {off : Fin 1 → ℕ} (h : ∀ a, off a + S49504.size a ≤ S12845056.size a) (e : off 0 = 50176 * row + 224) :
    Fetched xv row ((xV.slice (Rect.unit (s := S12845056) off S49504.size h) (fun _ => rfl)).view.read (Elt F) xv) := by
  intro w x hx
  exact congrArg xv (line_ext ((ValueKit.rect_emb_unit_val (s := S12845056) off S49504.size h w 0).trans (by omega)))

/-- One image of a pair: its window fetched, then gathered. -/
theorem image_rule {r b : ℕ} (hb : b < 2) {sem : DmaSem sig} (hsem : (SemLoc.dma sem : SemLoc sig).isScoped .scVector = true)
    {off : Fin 1 → ℕ} {h : ∀ a, off a + S49504.size a ≤ S12845056.size a} (e : off = ![50176 * (2 * (4 * wid L + r) + b) + 224])
    {h₁ h₁' h₂ h₂' h₃}
    {l : Scf.Loop 32} {hok : l.OK} {body : Fin l.trips → Unit → Prog (TpuEff nD τ sig (Elt F) Λ₀ (thr d L).2) Unit} (hG : Gathers d L b l body)
    {k : Unit → Prog (TpuEff nD τ sig (Elt F) Λ₀ (thr d L).2) α} :
    Mid d L q O W xv r (24420 * b) ⊢ iprop((∀ u, Mid d L q O W xv r (24420 * b + 24420) -∗ wpT d L (k u) Q) -∗
      wpT d L (.op (.enqueueDma (xV.slice (Rect.unit (s := S12845056) off S49504.size h) (fun _ => rfl)) (.here sW) (.dma sem) h₁ h₂ h₃) fun _ =>
        .op (.waitDma2 sem (xV.slice (Rect.unit (s := S12845056) off S49504.size h) (fun _ => rfl)) sW h₁' h₂') fun _ =>
        Scf.Loop.for l hok ⟨⟩ body >>= k) Q) := by
  unfold Mid
  iintro ⟨Hi, ⟨%fW, Hw⟩, Ho, Hx, Hidle, Hout⟩ Hk
  iapply (copy_wait (𝒱 := 𝒱₀) (c := thr d L) EC (dst := sW) (Ss := Finset.univ) (Sd := Finset.univ) (O := O) (W := W) hsem (by decide) (Finset.subset_univ _) (Finset.subset_univ _)) $$ [Hx Hw Hidle]
  · isplitl [Hx]; · iexact Hx
    isplitl [Hw] <;> iassumption
  iintro ⟨Hx, Hw, Hidle⟩
  iapply (loop_rule d L (xv := xv) (p := 4 * wid L + r) hb hok hG) $$ [Hi Hw Ho]
  · unfold Gather
    isplitl [Hi]; · iexact Hi
    isplitl [Hw]
    · iexists _; isplitr
      rotate_left
      · iexact Hw
      · ipureintro
        exact (congrArg (Fetched xv _) (View.write_whole_univ (cc0_scratch1 : Ref sig .scVector) fW _)).mpr (fetched h (by rw [e]; rfl))
    · rw [show mark b 0 = 24420 * b by unfold mark; omega]; iexact Ho
  iintro %u HG
  unfold Gather
  icases HG with ⟨Hi, ⟨%fW', -, Hw⟩, Ho⟩
  iapply Hk
  isplitl [Hi]; · iexact Hi
  isplitl [Hw]; · iexists _; iexact Hw
  isplitl [Ho]; · rw [show mark b 1527 = 24420 * b + 24420 by unfold mark; omega]; iexact Ho
  isplitl [Hx]; · iexact Hx
  isplitl [Hidle] <;> iassumption

/-- A pair of rows written out: the next pair starts with nothing of it gathered. -/
theorem out_rule {r : ℕ} (hr : r < 4) {sem : DmaSem sig} (hsem : (SemLoc.dma sem : SemLoc sig).isScoped .scVector = true)
    {off : Fin 1 → ℕ} {h : ∀ a, off a + S48840.size a ≤ S6251520.size a} (e : off = ![48840 * (4 * wid L + r)]) {h₁ h₁' h₂ h₂' h₃}
    {k : PUnit → Prog (TpuEff nD τ sig (Elt F) Λ₀ (thr d L).2) α} :
    Mid d L q O W xv r 48840 ⊢ iprop((Mid d L q O W xv (r + 1) 0 -∗ wpT d L (k ⟨⟩) Q) -∗
      wpT d L (.op (.enqueueDma (sO.slice (Rect.unit (s := S48856) ![0] S48840.size inb_S48856_S48840_0) (fun _ => rfl))
          (.here (oV.slice (Rect.unit (s := S6251520) off S48840.size h) (fun _ => rfl))) (.dma sem) h₁ h₂ h₃) fun _ =>
        .op (.waitDma2 sem (sO.slice (Rect.unit (s := S48856) ![0] S48840.size inb_S48856_S48840_0) (fun _ => rfl))
          (oV.slice (Rect.unit (s := S6251520) off S48840.size h) (fun _ => rfl)) h₁' h₂') k) Q) := by
  subst e
  have hsub : (oV.slice (Rect.unit (s := S6251520) ![48840 * (4 * wid L + r)] S48840.size h) (fun _ => rfl)).view.set ⊆ region L := by
    refine (congrArg (· ⊆ region L) (View.set_slice_whole (main_v1_scv : Ref sig .scVector) _)).mpr ?_
    intro k hk
    have h2 := Rect.mem_set_unit.mp hk 0
    rw [mem_region]
    have h3 : 48840 * (4 * wid L + r) ≤ (k 0).val ∧ (k 0).val < 48840 * (4 * wid L + r) + 48840 := h2
    generalize wid L = w at h3 ⊢
    omega
  unfold Mid
  iintro ⟨Hi, Hw, ⟨%g, %hg, Ho⟩, Hx, Hidle, ⟨%f, %hf, Hout⟩⟩ Hk
  iapply (copy_wait (𝒱 := 𝒱₀) (c := thr d L) EC (src := sO.slice (Rect.unit (s := S48856) ![0] S48840.size inb_S48856_S48840_0) (fun _ => rfl))
    (dst := oV.slice (Rect.unit (s := S6251520) ![48840 * (4 * wid L + r)] S48840.size h) (fun _ => rfl)) (Ss := Finset.univ) (Sd := region L) (O := O) (W := W) hsem (by decide) (Finset.subset_univ _) hsub) $$ [Ho Hout Hidle]
  · isplitl [Ho]; · iexact Ho
    isplitl [Hout] <;> iassumption
  iintro ⟨Ho, Hout, Hidle⟩
  iapply Hk
  isplitl [Hi]; · iexact Hi
  isplitl [Hw]; · iexact Hw
  isplitl [Ho]
  · iexists g; isplitr
    · ipureintro; exact Filled.zero _ _ _
    · iexact Ho
  isplitl [Hx]; · iexact Hx
  isplitl [Hidle]; · iexact Hidle
  iexists _; isplitr
  rotate_left
  · iexact Hout
  ipureintro
  intro k hk hlt
  rw [mem_region] at hk
  refine (congrFun (View.write_whole_slice_unit (main_v1_scv : Ref sig .scVector) ![48840 * (4 * wid L + r)] S48840.size h f _) k).trans ?_
  unfold updateSlice
  split
  · next hin =>
    have h3 : 48840 * (4 * wid L + r) ≤ (k 0).val ∧ (k 0).val < 48840 * (4 * wid L + r) + 48840 := hin 0
    refine hg _ k ?_ ?_
    · refine (congrArg (· < 48840) (ValueKit.rect_emb_unit_val (s := S48856) ![0] S48840.size inb_S48856_S48840_0 _ 0)).mpr ?_
      show 0 + ((k 0).val - 48840 * (4 * wid L + r)) < 48840
      omega
    · refine Eq.trans ?_ (congrArg (48840 * (4 * wid L + r) + ·) (ValueKit.rect_emb_unit_val (s := S48856) ![0] S48840.size inb_S48856_S48840_0 _ 0)).symm
      show (k 0).val = 48840 * (4 * wid L + r) + (0 + ((k 0).val - 48840 * (4 * wid L + r)))
      omega
  · next hout =>
    refine hf k (mem_region L |>.mpr hk) ?_
    by_contra hge
    refine hout fun a => ?_
    obtain rfl : a = 0 := Subsingleton.elim (α := Fin 1) _ _
    show 48840 * (4 * wid L + r) ≤ (k 0).val ∧ (k 0).val < 48840 * (4 * wid L + r) + 48840
    generalize wid L = w at hlt hge ⊢
    omega

/-- From one full pair to the next: the pair written out, and both images of the next fetched and gathered. -/
theorem segment_rule {r : ℕ} (hr : r < 3) {sem sem₀ sem₁ : DmaSem sig}
    (hsem : (SemLoc.dma sem : SemLoc sig).isScoped .scVector = true) (hsem₀ : (SemLoc.dma sem₀ : SemLoc sig).isScoped .scVector = true)
    (hsem₁ : (SemLoc.dma sem₁ : SemLoc sig).isScoped .scVector = true)
    {off off₀ off₁ : Fin 1 → ℕ} {h : ∀ a, off a + S48840.size a ≤ S6251520.size a}
    {h₀ : ∀ a, off₀ a + S49504.size a ≤ S12845056.size a} {h₁ : ∀ a, off₁ a + S49504.size a ≤ S12845056.size a}
    (e : off = ![48840 * (4 * wid L + r)]) (e₀ : off₀ = ![50176 * (2 * (4 * wid L + (r + 1)) + 0) + 224])
    (e₁ : off₁ = ![50176 * (2 * (4 * wid L + (r + 1)) + 1) + 224])
    {a₁ a₁' a₂ a₂' a₃ b₁ b₁' b₂ b₂' b₃ c₁ c₁' c₂ c₂' c₃} {l₀ l₁ : Scf.Loop 32} {hok₀ : l₀.OK} {hok₁ : l₁.OK}
    {body₀ : Fin l₀.trips → Unit → Prog (TpuEff nD τ sig (Elt F) Λ₀ (thr d L).2) Unit}
    {body₁ : Fin l₁.trips → Unit → Prog (TpuEff nD τ sig (Elt F) Λ₀ (thr d L).2) Unit}
    (hG₀ : Gathers d L 0 l₀ body₀) (hG₁ : Gathers d L 1 l₁ body₁) (v : α) :
    Mid d L q O W xv r 48840 ⊢
      wpT d L (.op (.enqueueDma (sO.slice (Rect.unit (s := S48856) ![0] S48840.size inb_S48856_S48840_0) (fun _ => rfl))
          (.here (oV.slice (Rect.unit (s := S6251520) off S48840.size h) (fun _ => rfl))) (.dma sem) a₁ a₂ a₃) fun _ =>
        .op (.waitDma2 sem (sO.slice (Rect.unit (s := S48856) ![0] S48840.size inb_S48856_S48840_0) (fun _ => rfl))
          (oV.slice (Rect.unit (s := S6251520) off S48840.size h) (fun _ => rfl)) a₁' a₂') fun _ =>
        .op (.enqueueDma (xV.slice (Rect.unit (s := S12845056) off₀ S49504.size h₀) (fun _ => rfl)) (.here sW) (.dma sem₀) b₁ b₂ b₃) fun _ =>
        .op (.waitDma2 sem₀ (xV.slice (Rect.unit (s := S12845056) off₀ S49504.size h₀) (fun _ => rfl)) sW b₁' b₂') fun _ =>
        Scf.Loop.for l₀ hok₀ ⟨⟩ body₀ >>= fun _ =>
        .op (.enqueueDma (xV.slice (Rect.unit (s := S12845056) off₁ S49504.size h₁) (fun _ => rfl)) (.here sW) (.dma sem₁) c₁ c₂ c₃) fun _ =>
        .op (.waitDma2 sem₁ (xV.slice (Rect.unit (s := S12845056) off₁ S49504.size h₁) (fun _ => rfl)) sW c₁' c₂') fun _ =>
        Scf.Loop.for l₁ hok₁ ⟨⟩ body₁ >>= fun _ => .ret v) fun _ => Mid d L q O W xv (r + 1) 48840 := by
  iintro H
  iapply (out_rule d L (by omega) hsem e) $$ H; iintro H
  iapply (image_rule d L (r := r + 1) (b := 0) (by omega) hsem₀ e₀ hG₀) $$ H; iintro %u H
  iapply (image_rule d L (r := r + 1) (b := 1) (by omega) hsem₁ e₁ hG₁) $$ H; iintro %u' H
  unfold wpT
  rw [wp_ret]; imodintro
  iexact H

end Copies

end Cert.KernelIdeal.Run

end
-- ==== Proof.KernelIdealTask.lean ====
/-
  One task of the kernel, whole: the table fetched, four pairs of rows gathered and written out.
-/
module

public import proofs.«01_k».proof.Proof.KernelIdealTile

@[expose] public section

noncomputable section

namespace Cert.KernelIdeal.Run

open Cert.KernelIdeal Cert.KernelIdeal.Gen Cert.Proof

open Idealize.ShloMosaic
open Idealize.ShloMosaic.SparseCore (S V T)
open Idealize.ShloMosaic.SparseCore.Cfg (HIx ownBufs ownSems0 ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)
variable {q qi : PosShare TreeShare} {O : CellTallies nD τ sig (HIx 1)} {W : Waits sig (HIx 1)} {xv : S12845056.Idx → Elt F .f32}
  {tab : S24432.Idx → Elt F .i32}

/-- Where pair `r`'s image `b` of the task is fetched from. -/
theorem fetch_off (r : Fin 4) (b : Fin 2) :
    k0_off1 L (BitVec.ofNat 32 r.val) (BitVec.ofNat 32 b.val) = ![50176 * (2 * (4 * wid L + r.val) + b.val) + 224] := by
  rw [k0_off1_eq]
  exact congrArg (fun n : ℕ => (![n] : Fin 1 → ℕ)) (by show _ = 50176 * (2 * (4 * (2 * (L 1).val + (L 0).val) + r.val) + b.val) + 224; omega)

/-- Where pair `r` of the task is written to. -/
theorem write_off (r : Fin 4) : k0_off6 L (BitVec.ofNat 32 r.val) = ![48840 * (4 * wid L + r.val)] := by
  rw [k0_off6_eq]
  exact congrArg (fun n : ℕ => (![n] : Fin 1 → ℕ)) (by show _ = 48840 * (4 * (2 * (L 1).val + (L 0).val) + r.val); omega)

/-- What the task starts from: the table and the input to read, its elements of the result, its scratch, leave to go on. -/
def Start (q qi : PosShare TreeShare) (O : CellTallies nD τ sig (HIx 1)) (W : Waits sig (HIx 1)) (xv : S12845056.Idx → Elt F .f32)
    (tab : S24432.Idx → Elt F .i32) : sProp 𝕄 :=
  iprop((∃ fI, iLoc d L ↦{fullShare} fI) ∗ (∃ fW, wLoc d L ↦{fullShare} fW) ∗ (∃ g, oLoc d L ↦{fullShare} g)
    ∗ (iHbm d L ↦{qi} tab) ∗ (xHbm d L ↦{q} xv) ∗ Idle (thr d L) O W ∗ ∃ f, oHbm d L ↦[region L]{fullShare} f)

/-- The first part: the table fetched, and the first pair gathered. -/
theorem part1 (hT : Table tab) :
    Start d L q qi O W xv tab ⊢ wpT d L (k0_part1 (F := F) L xV (Memref.isWhole_whole _) iV (Memref.isWhole_whole _) oV (Memref.isWhole_whole _)
      sI (Memref.isWhole_whole _) sW (Memref.isWhole_whole _) sO (Memref.isWhole_whole _) cc0_scoped0 cc0_scoped1 cc0_scoped2 cc0_scoped3 cc0_scoped4
      cc0_scoped5 cc0_scoped6 cc0_scoped7 cc0_scoped8 cc0_scoped9 cc0_scoped10 cc0_scoped11 cc0_scoped12)
      fun _ => iprop((iHbm d L ↦{qi} tab) ∗ Mid d L q O W xv 0 48840) := by
  rw [k0_part1_eq_skeleton]; unfold k0_part1_skel
  simp only [Prog.lift, Prog.bind_op, Prog.bind_ret, Prog.pure_eq_ret]
  unfold Start
  iintro ⟨⟨%fI, Hi⟩, Hw, ⟨%g, Ho⟩, Ht, Hx, Hidle, ⟨%f, Hout⟩⟩
  iapply (copy_wait (𝒱 := 𝒱₀) (c := thr d L) EC (dst := sI) (Ss := Finset.univ) (Sd := Finset.univ) (O := O) (W := W) rfl (by decide)
    (Finset.subset_univ _) (Finset.subset_univ _)) $$ [Ht Hi Hidle]
  · isplitl [Ht]; · iexact Ht
    isplitl [Hi] <;> iassumption
  iintro ⟨Ht, Hi, Hidle⟩
  iapply (image_rule d L (q := q) (O := O) (W := W) (xv := xv) (r := 0) (b := 0) (by omega) (by decide) (fetch_off L 0 0)
    ⟨by decide, k0_off2, k0_off3, k0_off2_inb, k0_off3_inb, k0_chk1, k0_chk1.dec, k0_idx1_inb, fun _ _ => rfl, k0_off2_eq,
      fun t => by rw [k0_off3_eq]; show 16 * t.val = _; omega, fun _ h => h⟩) $$ [Hi Hw Ho Hx Hidle Hout]
  · unfold Mid
    isplitl [Hi]
    · iexists _; isplitr
      rotate_left
      · iexact Hi
      · ipureintro
        exact (congrArg Table (View.write_whole_univ (cc0_scratch0 : Ref sig .scVector) fI _)).mpr hT
    isplitl [Hw]; · iexact Hw
    isplitl [Ho]
    · iexists g; isplitr
      · ipureintro; exact Filled.zero _ _ _
      · iexact Ho
    isplitl [Hx]; · iexact Hx
    isplitl [Hidle]; · iexact Hidle
    iexists f; isplitr
    · ipureintro
      intro k hk hlt
      rw [mem_region] at hk
      generalize wid L = w at hk hlt
      omega
    · iexact Hout
  iintro %u H
  iapply (image_rule d L (r := 0) (b := 1) (by omega) (by decide) (fetch_off L 0 1)
    ⟨by decide, k0_off4, k0_off5, k0_off4_inb, k0_off5_inb, k0_chk2, k0_chk2.dec, k0_idx2_inb, fun _ _ => rfl, k0_off4_eq,
      fun t => by rw [k0_off5_eq]; show 16 * t.val + 24420 = _; omega, fun _ h => h⟩) $$ H
  iintro %u' H
  unfold wpT
  rw [wp_ret]; imodintro
  isplitl [Ht] <;> iassumption

/-- The second part: the first pair written out, and the second gathered. -/
theorem part2 (v1 : BitVec 32) :
    Mid d L q O W xv 0 48840 ⊢ wpT d L (k0_part2 (F := F) L xV (Memref.isWhole_whole _) iV (Memref.isWhole_whole _) oV (Memref.isWhole_whole _)
      sI (Memref.isWhole_whole _) sW (Memref.isWhole_whole _) sO (Memref.isWhole_whole _) cc0_scoped0 cc0_scoped1 cc0_scoped2 cc0_scoped3 cc0_scoped4
      cc0_scoped5 cc0_scoped6 cc0_scoped7 cc0_scoped8 cc0_scoped9 cc0_scoped10 cc0_scoped11 cc0_scoped12 v1)
      fun _ => Mid d L q O W xv 1 48840 := by
  rw [k0_part2_eq_skeleton]; unfold k0_part2_skel
  simp only [Prog.lift, Prog.bind_op, Prog.bind_ret, Prog.pure_eq_ret]
  exact segment_rule d L (r := 0) (by omega) (by decide) (by decide) (by decide) (write_off L 0) (fetch_off L 1 0) (fetch_off L 1 1)
    ⟨by decide, k0_off7, k0_off8, k0_off7_inb, k0_off8_inb, k0_chk3, k0_chk3.dec, k0_idx3_inb, fun _ _ => rfl, k0_off7_eq,
      fun t => by rw [k0_off8_eq]; show 16 * t.val = _; omega, fun _ h => h⟩
    ⟨by decide, k0_off9, k0_off10, k0_off9_inb, k0_off10_inb, k0_chk4, k0_chk4.dec, k0_idx4_inb, fun _ _ => rfl, k0_off9_eq,
      fun t => by rw [k0_off10_eq]; show 16 * t.val + 24420 = _; omega, fun _ h => h⟩ _

/-- The third part: the second pair written out, and the third gathered. -/
theorem part3 (v1 : BitVec 32) :
    Mid d L q O W xv 1 48840 ⊢ wpT d L (k0_part3 (F := F) L xV (Memref.isWhole_whole _) iV (Memref.isWhole_whole _) oV (Memref.isWhole_whole _)
      sI (Memref.isWhole_whole _) sW (Memref.isWhole_whole _) sO (Memref.isWhole_whole _) cc0_scoped0 cc0_scoped1 cc0_scoped2 cc0_scoped3 cc0_scoped4
      cc0_scoped5 cc0_scoped6 cc0_scoped7 cc0_scoped8 cc0_scoped9 cc0_scoped10 cc0_scoped11 cc0_scoped12 v1)
      fun _ => Mid d L q O W xv 2 48840 := by
  rw [k0_part3_eq_skeleton]; unfold k0_part3_skel
  simp only [Prog.lift, Prog.bind_op, Prog.bind_ret, Prog.pure_eq_ret]
  exact segment_rule d L (r := 1) (by omega) (by decide) (by decide) (by decide) (write_off L 1) (fetch_off L 2 0) (fetch_off L 2 1)
    ⟨by decide, k0_off11, k0_off12, k0_off11_inb, k0_off12_inb, k0_chk5, k0_chk5.dec, k0_idx5_inb, fun _ _ => rfl, k0_off11_eq,
      fun t => by rw [k0_off12_eq]; show 16 * t.val = _; omega, fun _ h => h⟩
    ⟨by decide, k0_off13, k0_off14, k0_off13_inb, k0_off14_inb, k0_chk6, k0_chk6.dec, k0_idx6_inb, fun _ _ => rfl, k0_off13_eq,
      fun t => by rw [k0_off14_eq]; show 16 * t.val + 24420 = _; omega, fun _ h => h⟩ _

/-- The fourth part: the third pair written out, and the fourth gathered. -/
theorem part4 (v1 : BitVec 32) :
    Mid d L q O W xv 2 48840 ⊢ wpT d L (k0_part4 (F := F) L xV (Memref.isWhole_whole _) iV (Memref.isWhole_whole _) oV (Memref.isWhole_whole _)
      sI (Memref.isWhole_whole _) sW (Memref.isWhole_whole _) sO (Memref.isWhole_whole _) cc0_scoped0 cc0_scoped1 cc0_scoped2 cc0_scoped3 cc0_scoped4
      cc0_scoped5 cc0_scoped6 cc0_scoped7 cc0_scoped8 cc0_scoped9 cc0_scoped10 cc0_scoped11 cc0_scoped12 v1)
      fun _ => Mid d L q O W xv 3 48840 := by
  rw [k0_part4_eq_skeleton]; unfold k0_part4_skel
  simp only [Prog.lift, Prog.bind_op, Prog.bind_ret, Prog.pure_eq_ret]
  exact segment_rule d L (r := 2) (by omega) (by decide) (by decide) (by decide) (write_off L 2) (fetch_off L 3 0) (fetch_off L 3 1)
    ⟨by decide, k0_off15, k0_off16, k0_off15_inb, k0_off16_inb, k0_chk7, k0_chk7.dec, k0_idx7_inb, fun _ _ => rfl, k0_off15_eq,
      fun t => by rw [k0_off16_eq]; show 16 * t.val = _; omega, fun _ h => h⟩
    ⟨by decide, k0_off17, k0_off18, k0_off17_inb, k0_off18_inb, k0_chk8, k0_chk8.dec, k0_idx8_inb, fun _ _ => rfl, k0_off17_eq,
      fun t => by rw [k0_off18_eq]; show 16 * t.val + 24420 = _; omega, fun _ h => h⟩ _

/-- What the task ends with: what it read as it was, its elements of the result those of the gather, its scratch. -/
def End (q qi : PosShare TreeShare) (O : CellTallies nD τ sig (HIx 1)) (W : Waits sig (HIx 1)) (xv : S12845056.Idx → Elt F .f32)
    (tab : S24432.Idx → Elt F .i32) : sProp 𝕄 :=
  iprop((∃ fI, iLoc d L ↦{fullShare} fI) ∗ (∃ fW, wLoc d L ↦{fullShare} fW) ∗ (∃ g, oLoc d L ↦{fullShare} g)
    ∗ (iHbm d L ↦{qi} tab) ∗ (xHbm d L ↦{q} xv) ∗ Idle (thr d L) O W ∗ oHbm d L ↦[region L]{fullShare} gathered xv)

/-- A program's continuation, run from what the program ends with; -/
theorem then_rule {α β : Type} {p : Prog (TpuEff nD τ sig (Elt F) Λ₀ (thr d L).2) α} {k : α → Prog (TpuEff nD τ sig (Elt F) Λ₀ (thr d L).2) β}
    {A : sProp 𝕄} {B : α → sProp 𝕄} {Q : β → sProp 𝕄} (hp : A ⊢ wpT d L p B) (hk : ∀ a, B a ⊢ wpT d L (k a) Q) :
    A ⊢ wpT d L (p >>= k) Q := by
  unfold wpT; rw [wp_bind]
  exact hp.trans (wp_mono frame _ _ hk)

/-- and with something kept aside meanwhile. -/
theorem beside_rule {α β : Type} {p : Prog (TpuEff nD τ sig (Elt F) Λ₀ (thr d L).2) α} {k : α → Prog (TpuEff nD τ sig (Elt F) Λ₀ (thr d L).2) β}
    {A G : sProp 𝕄} {B : α → sProp 𝕄} {Q : β → sProp 𝕄} (hp : A ⊢ wpT d L p B) (hk : ∀ a, iprop(G ∗ B a) ⊢ wpT d L (k a) Q) :
    iprop(G ∗ A) ⊢ wpT d L (p >>= k) Q :=
  then_rule d L ((sep_mono_right hp).trans (wp_frame_l frame _ _)) hk

/-- The whole task. -/
theorem task (hT : Table tab) :
    Start d L q qi O W xv tab ⊢ wpT d L (cc0_sc_gather (F := F) L xV (Memref.isWhole_whole _) iV (Memref.isWhole_whole _) oV (Memref.isWhole_whole _)
      sI (Memref.isWhole_whole _) sW (Memref.isWhole_whole _) sO (Memref.isWhole_whole _) cc0_scoped0 cc0_scoped1 cc0_scoped2 cc0_scoped3 cc0_scoped4
      cc0_scoped5 cc0_scoped6 cc0_scoped7 cc0_scoped8 cc0_scoped9 cc0_scoped10 cc0_scoped11 cc0_scoped12)
      fun _ => End d L q qi O W xv tab := by
  rw [cc0_sc_gather_eq_skeleton]; unfold cc0_sc_gather_skel
  refine then_rule d L (part1 d L hT) fun v1 => ?_
  refine beside_rule d L (part2 d L v1) fun _ => beside_rule d L (part3 d L v1) fun _ => beside_rule d L (part4 d L v1) fun _ => ?_
  simp only [Prog.lift, Prog.bind_op, Prog.bind_ret, Prog.pure_eq_ret]
  iintro ⟨Ht, H⟩
  iapply (out_rule d L (r := 3) (by omega) (by decide) (write_off L 3)) $$ H
  unfold Mid End
  iintro ⟨⟨%fI, -, Hi⟩, Hw, ⟨%g, -, Ho⟩, Hx, Hidle, ⟨%f, %hf, Hout⟩⟩
  unfold wpT
  rw [wp_ret]; imodintro
  isplitl [Hi]; · iexists _; iexact Hi
  isplitl [Hw]; · iexact Hw
  isplitl [Ho]; · iexists _; iexact Ho
  isplitl [Ht]; · iexact Ht
  isplitl [Hx]; · iexact Hx
  isplitl [Hidle]; · iexact Hidle
  have hg : ∀ k ∈ region L, f k = gathered xv k := fun k hk => hf k hk (by
    rw [mem_region] at hk
    generalize wid L = w at hk ⊢
    omega)
  ihave Hout' := (Entails.of_eq (pointsTo_congr hg)) $$ Hout
  iexact Hout'

end Cert.KernelIdeal.Run

end
-- ==== Proof.KernelIdealTable.lean ====
/-
  The kernel's index table, read off in closed form: entry `j` of the 24,432 words is `window j`.
-/
module

public import proofs.«01_k».proof.KernelIdeal
public import proofs.«01_k».proof.Proof.Positions
public import Idealize.ShloMosaic.Lib.Decide

@[expose] public section

namespace Cert.KernelIdeal.Table

open Idealize.ShloMosaic

/-- The table, chunk by chunk: it and the closed form, evaluated at every index. -/
theorem chunks : ∀ a : Fin 191, ∀ b : Fin 128, 128 * a.val + b.val < 24432 →
    (lit0t (128 * a.val + b.val)).toNat = Cert.Proof.window (128 * a.val + b.val) := by decide +kernel

/-- Entry `j` of the table is `window j`. -/
theorem lit0_toNat (j : Fin 24432) : (lit0 j).toNat = Cert.Proof.window j.val := by
  have h := chunks ⟨j.val / 128, by omega⟩ ⟨j.val % 128, by omega⟩
  have e : 128 * (j.val / 128) + j.val % 128 = j.val := by omega
  simp only [e] at h
  exact h j.isLt

end Cert.KernelIdeal.Table

end
-- ==== Proof.KernelIdealLaunch.lean ====
/-
  The launch of the kernel: the arrays dealt to the 32 tasks and collected from them, and @main's run, with what it
  leaves in the result.
-/
module

public import proofs.«01_k».proof.Proof.KernelIdealTask
public import proofs.«01_k».proof.Proof.KernelIdealTable
public import Idealize.ShloMosaic.Lib.StableHlo.Run

@[expose] public section

noncomputable section

namespace Cert.KernelIdeal.Run

open Cert.KernelIdeal Cert.KernelIdeal.Gen Cert.Proof

open Idealize.ShloMosaic
open Idealize.ShloMosaic.SparseCore (S V)
open Idealize.ShloMosaic.SparseCore.Cfg (HIx ownBufs ownSems0 ownRefs)
open Idealize.ShloMosaic.StableHlo (held wp_hlo_within)
open Idealize.ShloMosaic.Transfers (shareTok shareTokN shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The program's set-up -/

/-- The labels, the launch, the definitions and the variants of the whole program. -/
abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

/-- The launch's handshake semaphores are declared as the launch needs them, and no buffer is a task's shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, the left factor. -/
abbrev EH : Emb UH (MT nD τ sig (HIx 1) (Elt F) ℕ UU ℕ) := embL

variable (m : (ℓ : Loc nD τ sig) → Buf (Elt F) ℓ) (ρ : Dev nD → PrngReg)

/-! ## The arrays and their contents -/

/-- The input, the table, the flat input, the flat result and the result: as buffers of the device. -/
abbrev aRef : DevRef τ sig := Proc.devRef .tc (main_arg0 : Ref sig .tc)
abbrev cRef : DevRef τ sig := Proc.devRef .tc (main_c : Ref sig .tc)
abbrev xRef : DevRef τ sig := Proc.devRef .tc (main_v0 : Ref sig .tc)
abbrev oRef : DevRef τ sig := Proc.devRef .tc (main_v1 : Ref sig .tc)
abbrev rRef : DevRef τ sig := Proc.devRef .tc (main_v2 : Ref sig .tc)

/-- The same five, as places in memory. -/
abbrev aArr (d : Dev nD) : Loc nD τ sig := (SparseCore.T d).loc main_arg0
abbrev cArr (d : Dev nD) : Loc nD τ sig := (SparseCore.T d).loc main_c
abbrev xArr (d : Dev nD) : Loc nD τ sig := (SparseCore.T d).loc main_v0
abbrev oArr (d : Dev nD) : Loc nD τ sig := (SparseCore.T d).loc main_v1
abbrev rArr (d : Dev nD) : Loc nD τ sig := (SparseCore.T d).loc main_v2

/-- @main's three operations around the call: the table laid down, the input laid flat, the result given its shape. -/
abbrev opTable : HloOp τ sig (Elt F) := StableHlo.nullary main_c (fun i => lit0 (S24432.rowMajor i))
abbrev opFlat : HloOp τ sig (Elt F) := StableHlo.reshape main_arg0 main_v0 (rfl : (.f32 : EltTy) = .f32) shapeCasts_S8x32x224x224x1_S12845056
abbrev opShape : HloOp τ sig (Elt F) := StableHlo.reshape main_v1 main_v2 (rfl : (.f32 : EltTy) = .f32) shapeCasts_S6251520_S8x32x24420

/-- The arrays at the launch, before the call, after it, and at the end. -/
def V0 (d : Dev nD) : Valuation τ sig (Elt F) := fun b => m (d, b)
def V1 (d : Dev nD) : Valuation τ sig (Elt F) := (opTable (F := F)).result (V0 m d)
def V2 (d : Dev nD) : Valuation τ sig (Elt F) := (opFlat (F := F)).result (V1 m d)
/-- The table and the flat input the tasks read. -/
def tab (d : Dev nD) : Buf (Elt F) (cArr d) := V2 m d cRef
def flat (d : Dev nD) : S12845056.Idx → Elt F .f32 := V2 m d xRef
def V3 (d : Dev nD) : Valuation τ sig (Elt F) := Function.update (V2 m d) oRef (gathered (flat m d))
def V4 (d : Dev nD) : Valuation τ sig (Elt F) := (opShape (F := F)).result (V3 m d)

/-- The table the tasks read is the program's literal. -/
theorem tab_eq (d : Dev nD) : tab m d = fun i => lit0 (S24432.rowMajor i) := by
  unfold tab V2 V1
  rw [StableHlo.reshape_result_ne _ _ _ _ _ _ _ (show main_c ≠ main_v0 by decide)]
  exact StableHlo.nullary_result _ _ _ _

/-- So its words are the positions in closed form. -/
theorem table_tab (d : Dev nD) : Cert.Proof.Table (tab m d) := by
  rw [tab_eq]; intro k
  exact (Cert.KernelIdeal.Table.lit0_toNat _).trans (congrArg window (Shape.rowMajor_val_one _))

/-- The flat input: the input, read in row-major order. -/
theorem flat_eq (d : Dev nD) : flat m d = shapeCast S12845056 (m (aArr d)) shapeCasts_S8x32x224x224x1_S12845056 := by
  unfold flat V2
  refine (StableHlo.reshape_result _ _ _ _ _ _ _).trans ?_
  have h : V1 m d aRef = m (aArr d) := StableHlo.nullary_result_ne _ _ _ _ (show main_arg0 ≠ main_c by decide)
  exact congrArg (fun f => shapeCast S12845056 f shapeCasts_S8x32x224x224x1_S12845056) h

/-- The result at the end: the gather of the flat input, given its shape. -/
theorem V4_r (d : Dev nD) : V4 m d rRef = shapeCast S8x32x24420 (gathered (flat m d)) shapeCasts_S6251520_S8x32x24420 := by
  unfold V4
  refine (StableHlo.reshape_result _ _ _ _ _ _ _).trans ?_
  have h : V3 m d oRef = gathered (flat m d) := Function.update_self _ _ _
  exact congrArg (fun f => shapeCast S8x32x24420 f shapeCasts_S6251520_S8x32x24420) h

/-- The input is never written. -/
theorem V4_a (d : Dev nD) : V4 m d aRef = m (aArr d) := by
  unfold V4
  rw [StableHlo.reshape_result_ne _ _ _ _ _ _ _ (show main_arg0 ≠ main_v2 by decide)]
  unfold V3
  rw [Function.update_of_ne (show aRef ≠ oRef by decide)]
  unfold V2
  rw [StableHlo.reshape_result_ne _ _ _ _ _ _ _ (show main_arg0 ≠ main_v0 by decide)]
  exact StableHlo.nullary_result_ne _ _ _ _ (show main_arg0 ≠ main_c by decide)

/-! ## The arrays dealt to the tasks -/

/-- The elements of the result that task number `w` writes. -/
abbrev rows (w : ℕ) : Finset S6251520.Idx := Finset.univ.filter fun k => (k 0).val / 195360 = w

/-- What task number `w` holds of the arrays, with the result's contents `g`: the table and the flat input to read, its own
    elements of the result. -/
def Tile (d : Dev nD) (w : ℕ) (g : S6251520.Idx → Elt F .f32) : sProp 𝕄 :=
  iprop((cArr d ↦{shareTokN fullShare w} tab m d) ∗ (xArr d ↦{shareTokN fullShare w} flat m d) ∗ oArr d ↦[rows w]{fullShare} g)

/-- The 32 tasks by number, or by their place in the grid: task `(c, i)` is number `2 i + c`. -/
theorem by_place (Φ : ℕ → sProp 𝕄) :
    (bigSep Finset.univ fun w : Fin 32 => Φ w.val) = bigSep Finset.univ fun c : Fin 2 => bigSep Finset.univ fun i : Fin 16 => Φ (2 * i.val + c.val) := by
  rw [bigSep_univ_equiv ((Equiv.prodComm (Fin 2) (Fin 16)).trans (finProdFinEquiv (m := 16) (n := 2))) fun w : Fin 32 => Φ w.val, bigSep_univ_prod]
  refine bigSep_congr fun c _ => bigSep_congr fun i _ => congrArg Φ ?_
  show c.val + 2 * i.val = _
  omega

/-- No element of the result is written by two tasks. -/
theorem rows_disjoint : ∀ w ∈ (Finset.univ : Finset (Fin 32)), ∀ w' ∈ (Finset.univ : Finset (Fin 32)), w ≠ w' → Disjoint (rows w.val) (rows w'.val) := by
  intro w _ w' _ h
  refine Finset.disjoint_left.mpr fun k hk hk' => h (Fin.ext ?_)
  exact (Finset.mem_filter.mp hk).2.symm.trans (Finset.mem_filter.mp hk').2

/-- Every element of the result is written by some task. -/
theorem rows_cover : (Finset.univ : Finset (Fin 32)).biUnion (fun w => rows w.val) = Finset.univ := by
  refine Finset.eq_univ_iff_forall.mpr fun k => Finset.mem_biUnion.mpr ?_
  have hk : (k 0).val < 6251520 := (k 0).isLt
  exact ⟨⟨(k 0).val / 195360, by omega⟩, Finset.mem_univ _, Finset.mem_filter.mpr ⟨Finset.mem_univ _, rfl⟩⟩

/-- All the tasks' holdings together. -/
theorem tiles_eq (d : Dev nD) (g : S6251520.Idx → Elt F .f32) :
    (bigSep Finset.univ fun c : Fin 2 => bigSep Finset.univ fun i : Fin 16 => Tile m d (2 * i.val + c.val) g)
      = iprop((bigSep Finset.univ fun w : Fin 32 => cArr d ↦{shareTok fullShare 32 w} tab m d)
          ∗ (bigSep Finset.univ fun w : Fin 32 => xArr d ↦{shareTok fullShare 32 w} flat m d) ∗ oArr d ↦{fullShare} g) := by
  rw [← by_place fun w => Tile m d w g]
  unfold Tile
  rw [bigSep_sep', bigSep_sep', ← pointsTo_biUnion Finset.univ (ℓ := oArr d) (fun w : Fin 32 => rows w.val) rows_disjoint, rows_cover]

/-- What the TensorCore keeps of the two arrays read meanwhile. -/
def Kept (d : Dev nD) : sProp 𝕄 := iprop((cArr d ↦{shareDrop fullShare 32} tab m d) ∗ xArr d ↦{shareDrop fullShare 32} flat m d)

/-- The arrays, dealt out: each task its holding, and the rest kept. -/
theorem deal (d : Dev nD) (g : S6251520.Idx → Elt F .f32) :
    iprop((cArr d ↦{fullShare} tab m d) ∗ (xArr d ↦{fullShare} flat m d) ∗ oArr d ↦{fullShare} g)
      ⊢ iprop(Kept m d ∗ bigSep Finset.univ fun c : Fin 2 => bigSep Finset.univ fun i : Fin 16 => Tile m d (2 * i.val + c.val) g) := by
  rw [tiles_eq]; unfold Kept
  iintro ⟨Hc, Hx, Ho⟩
  ihave Hc' := (Transfers.pointsTo_toks_split fullShare 32) $$ Hc
  ihave Hx' := (Transfers.pointsTo_toks_split fullShare 32) $$ Hx
  icases Hc' with ⟨Hc, Hcs⟩
  icases Hx' with ⟨Hx, Hxs⟩
  isplitl [Hc Hx]
  · isplitl [Hc] <;> iassumption
  isplitl [Hcs]; · iexact Hcs
  isplitl [Hxs]; · iexact Hxs
  iexact Ho

/-- The holdings and the rest, put together again. -/
theorem collect (d : Dev nD) (g : S6251520.Idx → Elt F .f32) :
    iprop(Kept m d ∗ bigSep Finset.univ fun c : Fin 2 => bigSep Finset.univ fun i : Fin 16 => Tile m d (2 * i.val + c.val) g)
      ⊢ iprop((cArr d ↦{fullShare} tab m d) ∗ (xArr d ↦{fullShare} flat m d) ∗ oArr d ↦{fullShare} g) := by
  rw [tiles_eq]; unfold Kept
  iintro ⟨⟨Hc, Hx⟩, Hcs, Hxs, Ho⟩
  isplitl [Hc Hcs]
  · iapply (Transfers.pointsTo_toks_join fullShare 32)
    isplitl [Hc] <;> iassumption
  isplitl [Hx Hxs]
  · iapply (Transfers.pointsTo_toks_join fullShare 32)
    isplitl [Hx] <;> iassumption
  iexact Ho

/-! ## What the call hands over -/

/-- A task is handed its holdings, the result at its launch contents, and hands them back with the gather written; a
    SparseCore is handed, and hands back, its tasks'. -/
def P : (K (F := F)).Pay (nD := nD) (Val := Elt F) (Name := ℕ) (U := UU) where
  st := fun _ d c => bigSep Finset.univ fun i : Fin 16 => Tile m d (2 * i.val + c.val) (m (oArr d))
  dn := fun _ d c => bigSep Finset.univ fun i : Fin 16 => Tile m d (2 * i.val + c.val) (gathered (flat m d))
  go := fun _ d c i => Tile m d (2 * i.val + c.val) (m (oArr d))
  td := fun _ d c i => Tile m d (2 * i.val + c.val) (gathered (flat m d))
  x := fun _ _ => iprop(emp)

/-- A task's holding may be handed over. -/
instance Tile_storable (d : Dev nD) (w : ℕ) (g : S6251520.Idx → Elt F .f32) : BI.Storable (upEmb : UEmb _ 𝕄) (Tile m d w g) := by
  unfold Tile; infer_instance

/-- So may everything the call hands over. -/
instance P_storable : (P (F := F) m).IsStorable where
  st _ d c := by unfold P; infer_instance
  dn _ d c := by unfold P; infer_instance
  go _ _ _ _ := by unfold P; infer_instance
  td _ _ _ _ := by unfold P; infer_instance

/-- What a SparseCore is handed is exactly what its tasks are handed, and the same on the way back. -/
theorem vecSplit : (K (F := F)).VecSplit' (P m) 0 := by
  intro d c
  show iprop(bigSep Finset.univ fun i : Fin 16 => Tile m d (2 * i.val + c.val) (m (oArr d))) ⊢ |={Set.univ}=> iprop(
      (bigSep Finset.univ fun i : Fin 16 => Tile m d (2 * i.val + c.val) (m (oArr d)))
      ∗ ((bigSep Finset.univ fun i : Fin 16 => Tile m d (2 * i.val + c.val) (gathered (flat m d)))
          -∗ bigSep Finset.univ fun i : Fin 16 => Tile m d (2 * i.val + c.val) (gathered (flat m d))))
  iintro H; imodintro
  isplitl [H]; · iexact H
  iintro H; iexact H

/-! ## A task's obligation -/

section Tile

variable (d : Dev nD) (L : grid0.Coords)

/-- The three scratch buffers are among the task's own: they are them, at some contents, and the rest. -/
theorem ownBufs_V :
    (ownBufs (thr d L) : sProp 𝕄)
      = iprop((∃ f, iLoc d L ↦{fullShare} f) ∗ (∃ f, wLoc d L ↦{fullShare} f) ∗ (∃ f, oLoc d L ↦{fullShare} f)
          ∗ bigSep ((((ownRefs (τ := τ) (thr d L).2).erase ((thr d L).2.devRef cc0_scratch0)).erase
              ((thr d L).2.devRef cc0_scratch1)).erase ((thr d L).2.devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d L).2) (b := (thr d L).2.devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := (thr d L).2) (b := (thr d L).2.devRef cc0_scratch2) rfl⟩⟩)]

/-- The task, from what the launch hands it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ Tile m d (wid L) (m (oArr d))
        ∗ scopedBufs (thr d L) ∗ scopedSems0 (thr d L) ∗ owes (thr d L) O W)
      ⊢ wp frame (wpE (defs₀ (F := F)) 𝒱₀ (thr d L) none) Set.univ
          (cc0_sc_gather L xV (Memref.isWhole_whole _) iV (Memref.isWhole_whole _) oV (Memref.isWhole_whole _)
            sI (Memref.isWhole_whole _) sW (Memref.isWhole_whole _) sO (Memref.isWhole_whole _) cc0_scoped0 cc0_scoped1 cc0_scoped2 cc0_scoped3 cc0_scoped4
            cc0_scoped5 cc0_scoped6 cc0_scoped7 cc0_scoped8 cc0_scoped9 cc0_scoped10 cc0_scoped11 cc0_scoped12)
          fun _ => iprop(Tile m d (wid L) (gathered (flat m d)) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d ((L 0).castLE hcore0) ((L 1).castLE hsub0),
    SparseCore.Cfg.scopedSems0_V (Val := Elt F) d ((L 0).castLE hcore0) ((L 1).castLE hsub0), ownBufs_V]
  unfold Tile
  iintro ⟨#Hlv, -, ⟨Hc, Hx, Ho⟩, ⟨Hi, Hw, Hs, Hrest⟩, Hsems, HO⟩
  iapply (wp_wand_r frame _ _)
  isplitl [Hc Hx Ho Hi Hw Hs Hsems HO]
  · iapply (task d L (q := shareTokN fullShare (wid L)) (qi := shareTokN fullShare (wid L)) (O := O) (W := W) (xv := flat m d) (table_tab m d))
    unfold Start Idle
    isplitl [Hi]; · iexact Hi
    isplitl [Hw]; · iexact Hw
    isplitl [Hs]; · iexact Hs
    isplitl [Hc]; · iexact Hc
    isplitl [Hx]; · iexact Hx
    isplitl [Hsems HO]
    · isplitr; · iapply ((K (F := F)).mayWaits_none (thr := thr d L) hO); iexact Hlv
      isplitl [Hsems]; · iexact Hsems
      iexists W; isplitr
      · ipureintro; exact fun p hp => Or.inl hp
      · iexact HO
    iexists _; iexact Ho
  unfold End Idle
  iintro %_u ⟨Hi, Hw, Hs, Hc, Hx, ⟨-, Hsems, %W', %hW', HO⟩, Ho⟩
  isplitl [Hc Hx Ho]
  · isplitl [Hc]; · iexact Hc
    isplitl [Hx]; · iexact Hx
    iexact Ho
  isplitl [Hi Hw Hs Hrest]
  · isplitl [Hi]; · iexact Hi
    isplitl [Hw]; · iexact Hw
    isplitl [Hs]; · iexact Hs
    iexact Hrest
  isplitl [Hsems]; · iexact Hsems
  iexists W'; isplitr
  · ipureintro; exact fun p hp => (hW' p hp).imp_right Or.inl
  · iexact HO

end Tile

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body a vector subcore runs is the task at its grid point. -/
theorem defs₀_vector (c : Fin τ.nSC) (s : Fin τ.nSub) :
    defs₀ (F := F) (.scVector c s) 0 ()
      = SparseCore.onTile hcore0 hsub0 (fun c s => cc0_sc_gather (coordsV c s)
          xV (Memref.isWhole_whole _) iV (Memref.isWhole_whole _) oV (Memref.isWhole_whole _)
          sI (Memref.isWhole_whole _) sW (Memref.isWhole_whole _) sO (Memref.isWhole_whole _) cc0_scoped0 cc0_scoped1 cc0_scoped2 cc0_scoped3 cc0_scoped4
          cc0_scoped5 cc0_scoped6 cc0_scoped7 cc0_scoped8 cc0_scoped9 cc0_scoped10 cc0_scoped11 cc0_scoped12) ⟨⟩ c s := rfl

/-- Every task does what the call expects of it. -/
theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (coordsV ⟨_, hc.1⟩ ⟨_, hc.2⟩) hF O W hO

/-! ## The launch element of the ghost state -/

/-- Nothing, any number of times, is nothing. -/
theorem bigSep_nothing {I : Type} (s : Finset I) : (bigSep s fun _ => iprop(emp)) = (iprop(emp) : sProp 𝕄) := bigSep_emp_const s

/-- The ghost state at the launch: the handshakes' and no transfer. -/
def u₀ : UU := (initOf (K (F := F)).hsCells (K (F := F)).hsToks, 1)

/-- It pays for the handshakes, and nothing else is asked for. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr
  · rw [bigSep_nothing]; iempintro
  unfold P; dsimp only
  rw [bigSep_congr (fun (_ : Thread nD τ) _ => bigSep_nothing (Finset.univ : Finset (Fin 1))), bigSep_nothing]
  iempintro

/-! ## @main -/

/-- The five arrays of @main. -/
abbrev S5 : Finset (DevRef τ sig) := {aRef, cRef, xRef, oRef, rRef}

/-- Holding the five arrays is holding each. -/
theorem held_S5 (d : Dev nD) (W : Valuation τ sig (Elt F)) :
    (held (SparseCore.T d) S5 W : sProp 𝕄) = iprop((aArr d ↦{fullShare} W aRef) ∗ (cArr d ↦{fullShare} W cRef) ∗ (xArr d ↦{fullShare} W xRef)
      ∗ (oArr d ↦{fullShare} W oRef) ∗ rArr d ↦{fullShare} W rRef) := by
  unfold held S5
  rw [SparseCore.bigSep_insert' (by decide), SparseCore.bigSep_insert' (by decide), SparseCore.bigSep_insert' (by decide),
    SparseCore.bigSep_insert' (by decide), bigSep_singleton]

/-- The device's unscoped buffers are the five arrays, at their launch contents. -/
theorem unscoped_held (d : Dev nD) : (unscopedBufs d (fun b => m ((SparseCore.T d).loc b)) : sProp 𝕄) = held (SparseCore.T d) S5 (V0 m d) := by
  rw [held_S5]
  unfold unscopedBufs
  rw [show (Finset.univ.filter fun b : Ref sig .tc => ¬ b.isScoped) = {main_arg0, main_c, main_v0, main_v1, main_v2} by decide,
    SparseCore.bigSep_insert' (by decide), SparseCore.bigSep_insert' (by decide), SparseCore.bigSep_insert' (by decide),
    SparseCore.bigSep_insert' (by decide), bigSep_singleton]
  rfl

/-- The flat result is not written before the call. -/
theorem V2_o (d : Dev nD) : V2 m d oRef = m (oArr d) := by
  unfold V2
  rw [StableHlo.reshape_result_ne _ _ _ _ _ _ _ (show main_v1 ≠ main_v0 by decide)]
  exact StableHlo.nullary_result_ne _ _ _ _ (show main_v1 ≠ main_c by decide)

/-- The arrays around the call: those it takes, and the two it does not. -/
theorem before_call (d : Dev nD) :
    (held (SparseCore.T d) S5 (V2 m d) : sProp 𝕄) ⊢ iprop(((cArr d ↦{fullShare} tab m d) ∗ (xArr d ↦{fullShare} flat m d) ∗ oArr d ↦{fullShare} m (oArr d))
      ∗ (aArr d ↦{fullShare} V2 m d aRef) ∗ rArr d ↦{fullShare} V2 m d rRef) := by
  rw [held_S5, V2_o]
  iintro ⟨Ha, Hc, Hx, Ho, Hr⟩
  isplitl [Hc Hx Ho]
  · isplitl [Hc]; · iexact Hc
    isplitl [Hx]; · iexact Hx
    iexact Ho
  isplitl [Ha] <;> iassumption

/-- The arrays around the call, put together again: the flat result now holds the gather. -/
theorem after_call (d : Dev nD) :
    iprop(((cArr d ↦{fullShare} tab m d) ∗ (xArr d ↦{fullShare} flat m d) ∗ oArr d ↦{fullShare} gathered (flat m d))
      ∗ (aArr d ↦{fullShare} V2 m d aRef) ∗ rArr d ↦{fullShare} V2 m d rRef) ⊢ (held (SparseCore.T d) S5 (V3 m d) : sProp 𝕄) := by
  have hne (b : DevRef τ sig) (h : b ≠ oRef) : V3 m d b = V2 m d b := Function.update_of_ne h _ _
  rw [held_S5, hne aRef (by decide), hne cRef (by decide), hne xRef (by decide), hne rRef (by decide),
    show V3 m d oRef = gathered (flat m d) from Function.update_self _ _ _]
  iintro ⟨⟨Hc, Hx, Ho⟩, Ha, Hr⟩
  isplitl [Ha]; · iexact Ha
  isplitl [Hc]; · iexact Hc
  isplitl [Hx]; · iexact Hx
  isplitl [Ho]; · iexact Ho
  iexact Hr

/-- What @main leaves: the input as it was, and the result. -/
abbrev FIN (d : Dev nD) : sProp 𝕄 := iprop((aArr d ↦{fullShare} V4 m d aRef) ∗ rArr d ↦{fullShare} V4 m d rRef)

/-- @main: the table and the flat input laid down, the call, and the result given its shape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTable) (S := S5) (show ({cRef} : Finset (DevRef τ sig)) ⊆ S5 by decide)
    (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opFlat) (S := S5) (show ({aRef, xRef} : Finset (DevRef τ sig)) ⊆ S5 by decide)
    (V := V1 m d)) $$ [Hb Hheld]
  · isplitl [Hb]; · iexact Hb
    iexact Hheld
  iintro ⟨Hb, Hheld⟩
  rw [wp_ret]; imodintro
  ihave Hh := (show (held (SparseCore.T d) S5 ((opFlat (F := F)).result (V1 m d)) : sProp 𝕄) ⊢ _ from before_call m d) $$ Hheld
  icases Hh with ⟨Hh, Hrest⟩
  ihave Hd := (deal m d (m (oArr d))) $$ Hh
  icases Hd with ⟨Hkept, Htiles⟩
  iapply ((K (F := F)).wp_run (D (F := F)) 𝒱 (EH := EH) (P := P m) κ d 0) $$ [Hst Htiles Hkept Hb Hrest Hts]
  isplitr; · iexact Hctx
  isplitl [Hst]; · iexact Hst
  isplitl [Htiles]; · iexact Htiles
  iintro ⟨Hst, Htiles⟩
  ihave Hh := (collect m d (gathered (flat m d))) $$ [Hkept Htiles]
  · isplitl [Hkept]; · iexact Hkept
    iexact Htiles
  ihave Hheld := (after_call m d) $$ [Hh Hrest]
  · isplitl [Hh] <;> iassumption
  iapply (wp_hlo_within 𝒱 (SparseCore.T d) none Set.univ (op := opShape) (S := S5) (show ({oRef, rRef} : Finset (DevRef τ sig)) ⊆ S5 by decide)
    (V := V3 m d)) $$ [Hb Hheld]
  · isplitl [Hb]; · iexact Hb
    iexact Hheld
  iintro ⟨Hb, Hheld⟩
  ihave Hh := (show (held (SparseCore.T d) S5 ((opShape (F := F)).result (V3 m d)) : sProp 𝕄) ⊢ _ from Entails.of_eq (held_S5 (F := F) d (V4 m d))) $$ Hheld
  icases Hh with ⟨Ha, -, -, -, Hr⟩
  rw [wp_ret]; imodintro; imodintro
  isplitl [Hst]; · iexact Hst
  isplitl [Ha Hr]
  · isplitl [Ha] <;> iassumption
  isplitl [Hb] <;> iassumption

/-- What the memory says of the input and the result at the end. -/
def fq (d : Dev nD) (s' : Phys nD τ sig (Elt F)) : Prop := s'.mem.mem (aArr d) = V4 m d aRef ∧ s'.mem.mem (rArr d) = V4 m d rRef

/-- What @main leaves is what the memory says. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aArr d) (I := Finset.univ) (q := fullShare) (f := V4 m d aRef))) $$ [HSI Ha]
  · isplitl [HSI] <;> iassumption
  icases H with ⟨%h1, HSI, -⟩
  ihave H := (SI_pointsTo_agree (st := s') (ℓ := rArr d) (I := Finset.univ) (q := fullShare) (f := V4 m d rRef)) $$ [HSI Hr]
  · isplitl [HSI] <;> iassumption
  icases H with %h2
  ipureintro; exact ⟨funext fun i => h1 i (Finset.mem_univ i), funext fun i => h2 i (Finset.mem_univ i)⟩

/-! ## The program's run -/

/-- The value of the result: the input laid flat, gathered, and given the result's shape. -/
def value (x : S8x32x224x224x1.Idx → Elt F .f32) : S8x32x24420.Idx → Elt F .f32 :=
  shapeCast S8x32x24420 (gathered (shapeCast S12845056 x shapeCasts_S8x32x224x224x1_S12845056)) shapeCasts_S6251520_S8x32x24420

/-- The post of the run: the input as it was, the result `value` of it, the semaphores at zero. -/
def QC : PUnit × MemSt nD τ sig (Elt F) → Prop := fun r =>
  (∀ c : Dev nD, r.2.mem (aArr c) = m (aArr c) ∧ r.2.mem (rArr c) = value (m (aArr c))) ∧ r.2.sem = fun _ => 0

/-- The program runs, leaves its input as it was, its semaphores at zero, and `value` of the input in its result. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨(h c).1.trans (V4_a m c), (h c).2.trans ((V4_r m c).trans (by rw [flat_eq]; rfl))⟩, hz⟩)

end Cert.KernelIdeal.Run

end
-- ==== Proof.ReferenceTable.lean ====
/-
  The reference's index table, read off in closed form: entry `j` of the 24,420 words is `pixel j`.
-/
module

public import proofs.«01_k».proof.ReferenceIdeal
public import proofs.«01_k».proof.Proof.Positions
public import Idealize.ShloMosaic.Lib.Decide

@[expose] public section

namespace Cert.ReferenceIdeal.Table

open Idealize.ShloMosaic

/-- The table, chunk by chunk: it and the closed form, evaluated at every index. -/
theorem chunks : ∀ a : Fin 191, ∀ b : Fin 128, 128 * a.val + b.val < 24420 →
    (lit0t (128 * a.val + b.val)).toNat = Cert.Proof.pixel (128 * a.val + b.val) := by decide +kernel

/-- Entry `j` of the table is `pixel j`. -/
theorem lit0_toNat (j : Fin 24420) : (lit0 j).toNat = Cert.Proof.pixel j.val := by
  have h := chunks ⟨j.val / 128, by omega⟩ ⟨j.val % 128, by omega⟩
  have e : 128 * (j.val / 128) + j.val % 128 = j.val := by omega
  simp only [e] at h
  exact h j.isLt

end Cert.ReferenceIdeal.Table

end
-- ==== Proof.ReferenceValue.lean ====
/-
  What the reference computes: element `(b, t, j)` of its result is pixel `pixel j` of image `(b, t)`.
-/
module

public import proofs.«01_k».proof.Proof.Gen.ReferenceIdeal.Run
public import proofs.«01_k».proof.Proof.ReferenceTable
public import Idealize.ShloMosaic.Lib.ReduceAll
public import Idealize.ShloMosaic.Lib.StableHlo.Predicate

@[expose] public section

noncomputable section

namespace Cert.ReferenceIdeal.Taken

open Cert.ReferenceIdeal Cert.ReferenceIdeal.Gen Cert.Proof
open Idealize.ShloMosaic Idealize.ShloMosaic.TcCoe Idealize.SL.Sem Idealize.ShloMosaic.StableHlo

variable {F : FTy → Type} [FloatOps F]

/-- A word below the number of pixels is not negative, and at most the last pixel. -/
theorem word_range {v : BitVec 32} (h : v.toNat < 50176) :
    v.slt 0#32 = false ∧ (0#32).sle v = true ∧ v.sle 50175#32 = true ∧ v.toInt.toNat = v.toNat := by
  have e : v.toInt = v.toNat := BitVec.toInt_eq_toNat_of_lt (by omega)
  have h1 : (50175#32).toInt = 50175 := by decide
  have h0 : (0#32).toInt = 0 := by decide
  refine ⟨?_, ?_, ?_, ?_⟩
  · rw [BitVec.slt, e, h0]; exact decide_eq_false (by omega)
  · rw [BitVec.sle, e, h0]; exact decide_eq_true (by omega)
  · rw [BitVec.sle, e, h1]; exact decide_eq_true (by omega)
  · rw [e]; rfl

/-- The index table as a vector. -/
def entries : IVec S24420 32 := fun i => lit0 (S24420.rowMajor i)

/-- Entry `j` is `pixel j`. -/
theorem entries_toNat (i : S24420.Idx) : (entries i).toNat = pixel (i 0).val :=
  (Table.lit0_toNat _).trans (congrArg pixel (Shape.rowMajor_val_one _))

/-- Every entry is a pixel of the image. -/
theorem entries_lt (i : S24420.Idx) : (entries i).toNat < 50176 := by
  have h := pixel_lt (j := (i 0).val) (i 0).isLt
  rw [entries_toNat]; omega

/-- A negative entry would count from the end. -/
def wrapped : IVec S24420 32 :=
  select (cmpi .slt entries (broadcastInDim S24420 ![] bcast_S_S24420 (constantI S_ 32 0#32)))
    (addi entries (broadcastInDim S24420 ![] bcast_S_S24420 (constantI S_ 32 50176#32))) entries

/-- No entry is negative. -/
theorem wrapped_eq : wrapped = entries := by
  funext i
  show (if BitVec.ofBool ((entries i).slt 0#32) = 1#1 then _ else entries i) = entries i
  rw [(word_range (entries_lt i)).1]; rfl

/-- The entries as a column of start indices. -/
def starts : IVec S24420x1 32 := broadcastInDim S24420x1 ![0] bcast_S24420_S24420x1_0 wrapped

/-- Row `j` of the column is `pixel j`. -/
theorem starts_toNat (i : S24420x1.Idx) : (starts i).toNat = pixel (i 0).val := by
  show (wrapped _).toNat = _
  rw [wrapped_eq, entries_toNat]; rfl

/-- Every row is a pixel of the image. -/
theorem starts_lt (i : S24420x1.Idx) : (starts i).toNat < 50176 := by
  have h := pixel_lt (j := (i 0).val) (i 0).isLt
  rw [starts_toNat]; omega

/-- Which entries are inside the image. -/
def inside : IVec S24420 1 :=
  Host.reduce IntOp.andi
    (andi (cmpi .sge starts (broadcastInDim S24420x1 ![] bcast_S_S24420x1 (constantI S_ 32 0#32)))
      (cmpi .sle starts
        (broadcastInDim S24420x1 ![0, 1] bcast_S1x1_S24420x1_0_1 (broadcastInDim S1x1 ![1] bcast_S1_S1x1_1 (constantI S1 32 50175#32)))))
    (constantI S_ 1 1#1) reducesTo_S24420x1_S24420_d1 h_S_

/-- All of them. -/
theorem inside_eq (i : S24420.Idx) : inside i = 1#1 := by
  refine Host.reduce_andi_one _ _ _ _ i rfl fun k => ?_
  show BitVec.ofBool ((0#32).sle (starts k)) &&& BitVec.ofBool ((starts k).sle 50175#32) = 1#1
  obtain ⟨-, h1, h2, -⟩ := word_range (starts_lt k)
  rw [h1, h2]; rfl

/-- The gather's dimension numbers: along the last axis, one pixel at a time. -/
abbrev along := gather_S8x32x50176_S24420x1_S8x32x24420_01_2_n_n_2_1_8321

/-- The element of the input that element `y` of the result is. -/
def source (y : S8x32x24420.Idx) : S8x32x50176.Idx := fun
  | ⟨0, _⟩ => ⟨(y 0).val, (y 0).isLt⟩
  | ⟨1, _⟩ => ⟨(y 1).val, (y 1).isLt⟩
  | ⟨2, _⟩ => ⟨pixel (y 2).val, show _ < 50176 by have := pixel_lt (j := (y 2).val) (y 2).isLt; omega⟩

/-- The gather reads there. -/
theorem operandIdx_eq (y : S8x32x24420.Idx) : along.operandIdx y starts = source y := by
  have hb : ∀ a, a ∉ along.operandBatchingDims := fun _ => List.not_mem_nil
  funext a
  apply Fin.ext
  show along.start y starts a + along.batchCoord y a + along.offCoord y a = (source y a).val
  rw [along.batchCoord_eq_zero y a (hb a)]
  match a with
  | ⟨0, _⟩ =>
    show along.start y starts 0 + 0 + along.offCoord y 0 = (y 0).val
    unfold GatherDims.start GatherDims.offCoord
    rw [dif_neg (by decide), dif_pos (by decide), Nat.zero_add]
    rfl
  | ⟨1, _⟩ =>
    show along.start y starts 1 + 0 + along.offCoord y 1 = (y 1).val
    unfold GatherDims.start GatherDims.offCoord
    rw [dif_neg (by decide), dif_pos (by decide), Nat.zero_add]
    rfl
  | ⟨2, _⟩ =>
    show along.start y starts 2 + 0 + along.offCoord y 2 = pixel (y 2).val
    have hlt := pixel_lt (j := (y 2).val) (y 2).isLt
    unfold GatherDims.start GatherDims.offCoord
    rw [dif_pos (by decide), dif_neg (by decide), Nat.add_zero, (word_range (starts_lt _)).2.2.2, starts_toNat]
    show min (pixel (y 2).val) 50175 = _
    omega

/-- The reference's result, of the input as images laid flat. -/
def taken (x : S8x32x50176.Idx → Elt F .f32) : S8x32x24420.Idx → Elt F .f32 := fun y => x (source y)

/-- Since every entry is inside, the fill value is never taken. -/
theorem select_eq (x : S8x32x50176.Idx → Elt F .f32) (z : S8x32x24420.Idx → Elt F .f32) :
    select (broadcastInDim S8x32x24420 ![2] bcast_S24420_S8x32x24420_2 inside) (Host.gather along x starts) z = taken x := by
  have h : broadcastInDim S8x32x24420 ![2] bcast_S24420_S8x32x24420_2 inside = fun _ => 1#1 := funext fun _ => inside_eq _
  rw [h]
  funext y
  exact congrArg x (operandIdx_eq y)

variable (m : (ℓ : Loc nD τ sig) → Buf (Elt F) ℓ) (ρ : Dev nD → PrngReg)

/-- The reference runs, and leaves its input as it was and `taken` of it in its result. -/
theorem run_main : θ_run defs (onTc (τ := τ) (main (F := F))) ⟨m, fun _ => 0, ρ⟩ fun r => ∀ c : Dev nD,
    r.2.mem ((c.tc : Thread nD τ).loc main_v1)
        = taken (shapeCast S8x32x50176 (m ((c.tc : Thread nD τ).loc main_arg0)) shapeCasts_S8x32x224x224x1_S8x32x50176)
      ∧ r.2.mem ((c.tc : Thread nD τ).loc main_arg0) = m ((c.tc : Thread nD τ).loc main_arg0) :=
  (θ_run defs _ _).mono (fun _ h c => ⟨(h c).1.trans (select_eq _ _), (h c).2⟩) (Value.run m ρ)

end Cert.ReferenceIdeal.Taken

end
-- ==== Proof.Equation.lean ====
/-
  The kernel's result and the reference's are the same function of the input: both read, at `(b, t, j)`, the element
  `50176 (32 b + t) + pixel j` of the input in row-major order.
-/
module

public import proofs.«01_k».proof.Proof.ReferenceValue
public import proofs.«01_k».proof.Proof.KernelIdealLaunch

@[expose] public section

namespace Cert.Proof

open Idealize.ShloMosaic
open Cert.ReferenceIdeal.Taken

variable {F : FTy → Type} [FloatOps F]

/-- The kernel's value is the reference's. -/
theorem value_eq (x : Cert.KernelIdeal.S8x32x224x224x1.Idx → Elt F .f32) :
    Cert.KernelIdeal.Run.value x
      = taken (shapeCast Cert.ReferenceIdeal.S8x32x50176 x Cert.ReferenceIdeal.Facts₀.shapeCasts_S8x32x224x224x1_S8x32x50176) := by
  funext y
  refine congrArg x (Shape.reshapeEquiv_eq_of_rowMajor _ ((Shape.rowMajor_reshapeEquiv _ _).trans ?_))
  rw [Shape.rowMajor_val_one, Shape.rowMajor_val_three]
  have hk := Shape.rowMajor_reshapeEquiv (s := Line 6251520) Cert.KernelIdeal.Facts₀.shapeCasts_S6251520_S8x32x24420 y
  rw [Shape.rowMajor_val_one, Shape.rowMajor_val_three] at hk
  have hj : (y 2).val < 24420 := (y 2).isLt
  change _ = ((y 0).val * 32 + (y 1).val) * 24420 + (y 2).val at hk
  show ((y 0).val * 32 + (y 1).val) * 50176 + pixel (y 2).val
    = (Shape.reshapeEquiv Cert.KernelIdeal.Facts₀.shapeCasts_S6251520_S8x32x24420 y 0).val / 24420 * 50176
      + pixel ((Shape.reshapeEquiv Cert.KernelIdeal.Facts₀.shapeCasts_S6251520_S8x32x24420 y 0).val % 24420)
  rw [hk]
  generalize (y 0).val * 32 + (y 1).val = r
  have hdiv : (r * 24420 + (y 2).val) / 24420 = r := by omega
  have hmod : (r * 24420 + (y 2).val) % 24420 = (y 2).val := by omega
  rw [hdiv, hmod]

end Cert.Proof

end
-- ==== Proof.lean ====
/-
  The claims about this directory's kernel, assembled: each program runs and leaves its input and its semaphores as
  they were, the kernel and its idealization are one program, and the kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.ReferenceValue
public import proofs.«01_k».proof.Proof.Equation
public import Idealize.ShloMosaic.Adequacy
public import Idealize.ShloMosaic.Init

@[expose] public section

noncomputable section

namespace Cert.Proof

open Idealize.ShloMosaic Idealize.SL.Sem

/-- The kernel, bit for bit: it runs, its input ends as it began, its semaphores at zero. -/
theorem frame_kernel : Cert.quiescent_Kernel := fun m ρ _ =>
  (θ_run Cert.Kernel.defs _ _).mono (fun _ h => ⟨fun c => (h.1 c).1, h.2⟩) (Cert.Kernel.Run.run_main (F := Bits) m ρ)

/-- The same of the kernel over the extended reals. -/
theorem frame_kernel_ideal : Cert.quiescent_KernelIdeal := fun m ρ _ =>
  (θ_run Cert.KernelIdeal.defs _ _).mono (fun _ h => ⟨fun c => (h.1 c).1, h.2⟩)
    (Cert.KernelIdeal.Run.run_main (F := Ideal) m ρ)

/-- The same of the reference, which has no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Taken.run_main (F := Ideal) m ρ)

/-- The idealization replaces nothing. -/
theorem preserves : Cert.preserves_Kernel_KernelIdeal := trivial

/-- Of equal inputs the kernel and the reference end with equal results: `value` of the kernel's input. -/
theorem algebraic : Cert.algebraic_KernelIdeal_ReferenceIdeal := by
  intro m ρ m' ρ' _ hagree
  refine ⟨fun c => Cert.KernelIdeal.Run.value (m (Cert.KernelIdeal.Run.aArr c)), ?_, ?_⟩
  · exact (θ_run Cert.KernelIdeal.defs _ _).mono (fun _ h c => ⟨(h.1 c).2, (h.1 c).1⟩)
      (Cert.KernelIdeal.Run.run_main (F := Ideal) m ρ)
  · refine (θ_run Cert.ReferenceIdeal.defs _ _).mono (fun _ h c => ⟨(h c).1.trans ?_, (h c).2⟩)
      (Cert.ReferenceIdeal.Taken.run_main (F := Ideal) m' ρ')
    exact ((value_eq (m (Cert.KernelIdeal.Run.aArr c))).trans
      (congrArg (fun x => Cert.ReferenceIdeal.Taken.taken (shapeCast Cert.ReferenceIdeal.S8x32x50176 x
        Cert.ReferenceIdeal.Facts₀.shapeCasts_S8x32x224x224x1_S8x32x50176)) (hagree c).symm)).symm

/-- The five claims. -/
theorem claim : Cert.Claim :=
  ⟨Cert.Kernel.Gen.facts, Cert.KernelIdeal.Gen.facts, Cert.ReferenceIdeal.Gen.facts,
    frame_kernel, frame_kernel_ideal, frame_reference_ideal, preserves, algebraic⟩

end Cert.Proof

end
